-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v677) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S8x4x256x36x36 : Shape := ⟨5, ![8, 4, 256, 36, 36]⟩
abbrev S8x4x16x4 : Shape := ⟨4, ![8, 4, 16, 4]⟩
abbrev S256x256x3x3 : Shape := ⟨4, ![256, 256, 3, 3]⟩
abbrev S256 : Shape := ⟨1, ![256]⟩
abbrev S256x4096 : Shape := ⟨2, ![256, 4096]⟩
abbrev S1x256 : Shape := ⟨2, ![1, 256]⟩
abbrev S1 : Shape := ⟨1, ![1]⟩
abbrev S_ : Shape := ⟨0, ![]⟩

class Facts : Prop where
  bcast_S_S8x4x256x36x36 : S_.BroadcastsInDim S8x4x256x36x36 (![] : Fin 0 → Fin S8x4x256x36x36.rank)
  reducesTo_S8x4x256x36x36_S_d0_1_2_3_4 : S8x4x256x36x36.ReducesTo [0, 1, 2, 3, 4] S_
  h_S_ : 0 < S_.numel
  bcast_S_S8x4x16x4 : S_.BroadcastsInDim S8x4x16x4 (![] : Fin 0 → Fin S8x4x16x4.rank)
  reducesTo_S8x4x16x4_S_d0_1_2_3 : S8x4x16x4.ReducesTo [0, 1, 2, 3] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256 : S_.BroadcastsInDim S256 (![] : Fin 0 → Fin S256.rank)
  reducesTo_S256_S_d0 : S256.ReducesTo [0] S_
  bcast_S_S256x4096 : S_.BroadcastsInDim S256x4096 (![] : Fin 0 → Fin S256x4096.rank)
  reducesTo_S256x4096_S_d0_1 : S256x4096.ReducesTo [0, 1] S_

variable [Facts]

def fn_part4 {F : FTy → Type} [FloatOps F] (main_arg14 : FVec F S256x4096 .f32) (main_arg15 : FVec F S256 .f32) (main_v64 : IVec S_ 1) (main_v67 : IVec S256 1) : IVec S_ 1 :=
  let main_c_26 : IVec S_ 1 := constantI S_ 1 1#1
  let main_v68 : IVec S_ 1 := (fun x v => Host.reduce IntOp.andi x v reducesTo_S256_S_d0 h_S_) main_v67 main_c_26
  let main_v69 : IVec S_ 1 := andi main_v64 main_v68
  let main_v70 : FVec F S256x4096 .f32 := Host.absf main_arg14
  let main_cst_27 : FVec F S_ .f32 := constant S_ .f32 0x7F800000#32
  let main_v71 : FVec F S256x4096 .f32 := broadcastInDim S256x4096 ![] bcast_S_S256x4096 main_cst_27
  let main_v72 : IVec S256x4096 1 := cmpf .olt main_v70 main_v71
  let main_c_28 : IVec S_ 1 := constantI S_ 1 1#1
  let main_v73 : IVec S_ 1 := (fun x v => Host.reduce IntOp.andi x v reducesTo_S256x4096_S_d0_1 h_S_) main_v72 main_c_28
  let main_v74 : IVec S_ 1 := andi main_v69 main_v73
  let main_v75 : FVec F S256 .f32 := Host.absf main_arg15
  let main_cst_29 : FVec F S_ .f32 := constant S_ .f32 0x7F800000#32
  let main_v76 : FVec F S256 .f32 := broadcastInDim S256 ![] bcast_S_S256 main_cst_29
  let main_v77 : IVec S256 1 := cmpf .olt main_v75 main_v76
  let main_c_30 : IVec S_ 1 := constantI S_ 1 1#1
  let main_v78 : IVec S_ 1 := (fun x v => Host.reduce IntOp.andi x v reducesTo_S256_S_d0 h_S_) main_v77 main_c_30
  let main_v79 : IVec S_ 1 := andi main_v74 main_v78
  main_v79

def fn_part3 {F : FTy → Type} [FloatOps F] (main_arg11 : FVec F S256 .f32) (main_arg12 : FVec F S256 .f32) (main_arg13 : FVec F S256 .f32) (main_arg14 : FVec F S256x4096 .f32) (main_arg15 : FVec F S256 .f32) (main_v49 : IVec S_ 1) (main_v50 : FVec F S256x256x3x3 .f32) : IVec S_ 1 :=
  let main_cst_19 : FVec F S_ .f32 := constant S_ .f32 0x7F800000#32
  let main_v51 : FVec F S256x256x3x3 .f32 := broadcastInDim S256x256x3x3 ![] bcast_S_S256x256x3x3 main_cst_19
  let main_v52 : IVec S256x256x3x3 1 := cmpf .olt main_v50 main_v51
  let main_c_20 : IVec S_ 1 := constantI S_ 1 1#1
  let main_v53 : IVec S_ 1 := (fun x v => Host.reduce IntOp.andi x v reducesTo_S256x256x3x3_S_d0_1_2_3 h_S_) main_v52 main_c_20
  let main_v54 : IVec S_ 1 := andi main_v49 main_v53
  let main_v55 : FVec F S256 .f32 := Host.absf main_arg11
  let main_cst_21 : FVec F S_ .f32 := constant S_ .f32 0x7F800000#32
  let main_v56 : FVec F S256 .f32 := broadcastInDim S256 ![] bcast_S_S256 main_cst_21
  let main_v57 : IVec S256 1 := cmpf .olt main_v55 main_v56
  let main_c_22 : IVec S_ 1 := constantI S_ 1 1#1
  let main_v58 : IVec S_ 1 := (fun x v => Host.reduce IntOp.andi x v reducesTo_S256_S_d0 h_S_) main_v57 main_c_22
  let main_v59 : IVec S_ 1 := andi main_v54 main_v58
  let main_v60 : FVec F S256 .f32 := Host.absf main_arg12
  let main_cst_23 : FVec F S_ .f32 := constant S_ .f32 0x7F800000#32
  let main_v61 : FVec F S256 .f32 := broadcastInDim S256 ![] bcast_S_S256 main_cst_23
  let main_v62 : IVec S256 1 := cmpf .olt main_v60 main_v61
  let main_c_24 : IVec S_ 1 := constantI S_ 1 1#1
  let main_v63 : IVec S_ 1 := (fun x v => Host.reduce IntOp.andi x v reducesTo_S256_S_d0 h_S_) main_v62 main_c_24
  let main_v64 : IVec S_ 1 := andi main_v59 main_v63
  let main_v65 : FVec F S256 .f32 := Host.absf main_arg13
  let main_cst_25 : FVec F S_ .f32 := constant S_ .f32 0x7F800000#32
  let main_v66 : FVec F S256 .f32 := broadcastInDim S256 ![] bcast_S_S256 main_cst_25
  let main_v67 : IVec S256 1 := cmpf .olt main_v65 main_v66
  fn_part4 (F := F) main_arg14 main_arg15 main_v64 main_v67

def fn_part2 {F : FTy → Type} [FloatOps F] (main_arg7 : FVec F S256 .f32) (main_arg8 : FVec F S256 .f32) (main_arg9 : FVec F S256 .f32) (main_arg10 : FVec F S256x256x3x3 .f32) (main_arg11 : FVec F S256 .f32) (main_arg12 : FVec F S256 .f32) (main_arg13 : FVec F S256 .f32) (main_arg14 : FVec F S256x4096 .f32) (main_arg15 : FVec F S256 .f32) (main_v29 : IVec S_ 1) (main_v32 : IVec S256x256x3x3 1) (main_c_12 : IVec S_ 1) : IVec S_ 1 :=
  let main_v33 : IVec S_ 1 := (fun x v => Host.reduce IntOp.andi x v reducesTo_S256x256x3x3_S_d0_1_2_3 h_S_) main_v32 main_c_12
  let main_v34 : IVec S_ 1 := andi main_v29 main_v33
  let main_v35 : FVec F S256 .f32 := Host.absf main_arg7
  let main_cst_13 : FVec F S_ .f32 := constant S_ .f32 0x7F800000#32
  let main_v36 : FVec F S256 .f32 := broadcastInDim S256 ![] bcast_S_S256 main_cst_13
  let main_v37 : IVec S256 1 := cmpf .olt main_v35 main_v36
  let main_c_14 : IVec S_ 1 := constantI S_ 1 1#1
  let main_v38 : IVec S_ 1 := (fun x v => Host.reduce IntOp.andi x v reducesTo_S256_S_d0 h_S_) main_v37 main_c_14
  let main_v39 : IVec S_ 1 := andi main_v34 main_v38
  let main_v40 : FVec F S256 .f32 := Host.absf main_arg8
  let main_cst_15 : FVec F S_ .f32 := constant S_ .f32 0x7F800000#32
  let main_v41 : FVec F S256 .f32 := broadcastInDim S256 ![] bcast_S_S256 main_cst_15
  let main_v42 : IVec S256 1 := cmpf .olt main_v40 main_v41
  let main_c_16 : IVec S_ 1 := constantI S_ 1 1#1
  let main_v43 : IVec S_ 1 := (fun x v => Host.reduce IntOp.andi x v reducesTo_S256_S_d0 h_S_) main_v42 main_c_16
  let main_v44 : IVec S_ 1 := andi main_v39 main_v43
  let main_v45 : FVec F S256 .f32 := Host.absf main_arg9
  let main_cst_17 : FVec F S_ .f32 := constant S_ .f32 0x7F800000#32
  let main_v46 : FVec F S256 .f32 := broadcastInDim S256 ![] bcast_S_S256 main_cst_17
  let main_v47 : IVec S256 1 := cmpf .olt main_v45 main_v46
  let main_c_18 : IVec S_ 1 := constantI S_ 1 1#1
  let main_v48 : IVec S_ 1 := (fun x v => Host.reduce IntOp.andi x v reducesTo_S256_S_d0 h_S_) main_v47 main_c_18
  let main_v49 : IVec S_ 1 := andi main_v44 main_v48
  let main_v50 : FVec F S256x256x3x3 .f32 := Host.absf main_arg10
  fn_part3 (F := F) main_arg11 main_arg12 main_arg13 main_arg14 main_arg15 main_v49 main_v50

def fn_part1 {F : FTy → Type} [FloatOps F] (main_arg4 : FVec F S256 .f32) (main_arg5 : FVec F S256 .f32) (main_arg6 : FVec F S256x256x3x3 .f32) (main_arg7 : FVec F S256 .f32) (main_arg8 : FVec F S256 .f32) (main_arg9 : FVec F S256 .f32) (main_arg10 : FVec F S256x256x3x3 .f32) (main_arg11 : FVec F S256 .f32) (main_arg12 : FVec F S256 .f32) (main_arg13 : FVec F S256 .f32) (main_arg14 : FVec F S256x4096 .f32) (main_arg15 : FVec F S256 .f32) (main_v14 : IVec S_ 1) (main_v15 : FVec F S256 .f32) (main_cst_5 : FVec F S_ .f32) : IVec S_ 1 :=
  let main_v16 : FVec F S256 .f32 := broadcastInDim S256 ![] bcast_S_S256 main_cst_5
  let main_v17 : IVec S256 1 := cmpf .olt main_v15 main_v16
  let main_c_6 : IVec S_ 1 := constantI S_ 1 1#1
  let main_v18 : IVec S_ 1 := (fun x v => Host.reduce IntOp.andi x v reducesTo_S256_S_d0 h_S_) main_v17 main_c_6
  let main_v19 : IVec S_ 1 := andi main_v14 main_v18
  let main_v20 : FVec F S256 .f32 := Host.absf main_arg4
  let main_cst_7 : FVec F S_ .f32 := constant S_ .f32 0x7F800000#32
  let main_v21 : FVec F S256 .f32 := broadcastInDim S256 ![] bcast_S_S256 main_cst_7
  let main_v22 : IVec S256 1 := cmpf .olt main_v20 main_v21
  let main_c_8 : IVec S_ 1 := constantI S_ 1 1#1
  let main_v23 : IVec S_ 1 := (fun x v => Host.reduce IntOp.andi x v reducesTo_S256_S_d0 h_S_) main_v22 main_c_8
  let main_v24 : IVec S_ 1 := andi main_v19 main_v23
  let main_v25 : FVec F S256 .f32 := Host.absf main_arg5
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S256x256x3x3 .f32 := Host.absf main_arg6
  let main_cst_11 : FVec F S_ .f32 := constant S_ .f32 0x7F800000#32
  let main_v31 : FVec F S256x256x3x3 .f32 := broadcastInDim S256x256x3x3 ![] bcast_S_S256x256x3x3 main_cst_11
  let main_v32 : IVec S256x256x3x3 1 := cmpf .olt main_v30 main_v31
  let main_c_12 : IVec S_ 1 := constantI S_ 1 1#1
  fn_part2 (F := F) main_arg7 main_arg8 main_arg9 main_arg10 main_arg11 main_arg12 main_arg13 main_arg14 main_arg15 main_v29 main_v32 main_c_12

def fn {F : FTy → Type} [FloatOps F] (main_arg0 : FVec F S8x4x256x36x36 .f32) (main_arg1 : FVec F S8x4x16x4 .f32) (main_arg2 : FVec F S256x256x3x3 .f32) (main_arg3 : FVec F S256 .f32) (main_arg4 : FVec F S256 .f32) (main_arg5 : FVec F S256 .f32) (main_arg6 : FVec F S256x256x3x3 .f32) (main_arg7 : FVec F S256 .f32) (main_arg8 : FVec F S256 .f32) (main_arg9 : FVec F S256 .f32) (main_arg10 : FVec F S256x256x3x3 .f32) (main_arg11 : FVec F S256 .f32) (main_arg12 : FVec F S256 .f32) (main_arg13 : FVec F S256 .f32) (main_arg14 : FVec F S256x4096 .f32) (main_arg15 : FVec F S256 .f32) (main_arg16 : FVec F S256 .f32) (main_arg17 : FVec F S256 .f32) (main_arg18 : FVec F S1x256 .f32) (main_arg19 : FVec F S1 .f32) : IVec S_ 1 :=
  let main_v0 : FVec F S8x4x256x36x36 .f32 := Host.absf main_arg0
  let main_cst : FVec F S_ .f32 := constant S_ .f32 0x7F800000#32
  let main_v1 : FVec F S8x4x256x36x36 .f32 := broadcastInDim S8x4x256x36x36 ![] bcast_S_S8x4x256x36x36 main_cst
  let main_v2 : IVec S8x4x256x36x36 1 := cmpf .olt main_v0 main_v1
  let main_c : IVec S_ 1 := constantI S_ 1 1#1
  let main_v3 : IVec S_ 1 := (fun x v => Host.reduce IntOp.andi x v reducesTo_S8x4x256x36x36_S_d0_1_2_3_4 h_S_) main_v2 main_c
  let main_c_0 : IVec S_ 1 := constantI S_ 1 1#1
  let main_v4 : IVec S_ 1 := andi main_c_0 main_v3
  let main_v5 : FVec F S8x4x16x4 .f32 := Host.absf main_arg1
  let main_cst_1 : FVec F S_ .f32 := constant S_ .f32 0x7F800000#32
  let main_v6 : FVec F S8x4x16x4 .f32 := broadcastInDim S8x4x16x4 ![] bcast_S_S8x4x16x4 main_cst_1
  let main_v7 : IVec S8x4x16x4 1 := cmpf .olt main_v5 main_v6
  let main_c_2 : IVec S_ 1 := constantI S_ 1 1#1
  let main_v8 : IVec S_ 1 := (fun x v => Host.reduce IntOp.andi x v reducesTo_S8x4x16x4_S_d0_1_2_3 h_S_) main_v7 main_c_2
  let main_v9 : IVec S_ 1 := andi main_v4 main_v8
  let main_v10 : FVec F S256x256x3x3 .f32 := Host.absf main_arg2
  let main_cst_3 : FVec F S_ .f32 := constant S_ .f32 0x7F800000#32
  let main_v11 : FVec F S256x256x3x3 .f32 := broadcastInDim S256x256x3x3 ![] bcast_S_S256x256x3x3 main_cst_3
  let main_v12 : IVec S256x256x3x3 1 := cmpf .olt main_v10 main_v11
  let main_c_4 : IVec S_ 1 := constantI S_ 1 1#1
  let main_v13 : IVec S_ 1 := (fun x v => Host.reduce IntOp.andi x v reducesTo_S256x256x3x3_S_d0_1_2_3 h_S_) main_v12 main_c_4
  let main_v14 : IVec S_ 1 := andi main_v9 main_v13
  let main_v15 : FVec F S256 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_arg15 main_v14 main_v15 main_cst_5
-- ==== Kernel.lean ====
abbrev S8x4x256x36x36 : Shape := ⟨5, ![8, 4, 256, 36, 36]⟩
abbrev S8x4x16x4 : Shape := ⟨4, ![8, 4, 16, 4]⟩
abbrev S256x256x3x3 : Shape := ⟨4, ![256, 256, 3, 3]⟩
abbrev S256 : Shape := ⟨1, ![256]⟩
abbrev S256x4096 : Shape := ⟨2, ![256, 4096]⟩
abbrev S1x256 : Shape := ⟨2, ![1, 256]⟩
abbrev S1 : Shape := ⟨1, ![1]⟩
abbrev S8192x36x36 : Shape := ⟨3, ![8192, 36, 36]⟩
abbrev S3x3x256x256 : Shape := ⟨4, ![3, 3, 256, 256]⟩
abbrev S3x768x256 : Shape := ⟨3, ![3, 768, 256]⟩
abbrev S32x1296x256 : Shape := ⟨3, ![32, 1296, 256]⟩
abbrev S32x8x256 : Shape := ⟨3, ![32, 8, 256]⟩
abbrev S512x36x36 : Shape := ⟨3, ![512, 36, 36]⟩
abbrev S2x1296x256 : Shape := ⟨3, ![2, 1296, 256]⟩
abbrev S2x8x256 : Shape := ⟨3, ![2, 8, 256]⟩
abbrev S256x36x36 : Shape := ⟨3, ![256, 36, 36]⟩
abbrev S256x1296 : Shape := ⟨2, ![256, 1296]⟩
abbrev S256x36 : Shape := ⟨2, ![256, 36]⟩
abbrev S256x1260 : Shape := ⟨2, ![256, 1260]⟩
abbrev S768x1296 : Shape := ⟨2, ![768, 1296]⟩
abbrev S1x768x256 : Shape := ⟨3, ![1, 768, 256]⟩
abbrev S768x256 : Shape := ⟨2, ![768, 256]⟩
abbrev S1296x256 : Shape := ⟨2, ![1296, 256]⟩
abbrev S1296x1 : Shape := ⟨2, ![1296, 1]⟩
abbrev S1295x256 : Shape := ⟨2, ![1295, 256]⟩
abbrev S1x1296x256 : Shape := ⟨3, ![1, 1296, 256]⟩
abbrev S6x256 : Shape := ⟨2, ![6, 256]⟩
abbrev S8x256 : Shape := ⟨2, ![8, 256]⟩
abbrev S1x8x256 : Shape := ⟨3, ![1, 8, 256]⟩
abbrev S32x1x256 : Shape := ⟨3, ![32, 1, 256]⟩
abbrev S32x256 : Shape := ⟨2, ![32, 256]⟩
abbrev S_ : Shape := ⟨0, ![]⟩
abbrev S36x256 : Shape := ⟨2, ![36, 256]⟩
abbrev S1260x256 : Shape := ⟨2, ![1260, 256]⟩
abbrev S1296x768 : Shape := ⟨2, ![1296, 768]⟩
abbrev S32x16x4 : Shape := ⟨3, ![32, 16, 4]⟩
abbrev S32x16x4096 : Shape := ⟨3, ![32, 16, 4096]⟩
abbrev S2x16x4 : Shape := ⟨3, ![2, 16, 4]⟩
abbrev S2x16x4096 : Shape := ⟨3, ![2, 16, 4096]⟩
abbrev S32x4 : Shape := ⟨2, ![32, 4]⟩
abbrev S32x1 : Shape := ⟨2, ![32, 1]⟩
abbrev S1x5 : Shape := ⟨2, ![1, 5]⟩
abbrev S32x5 : Shape := ⟨2, ![32, 5]⟩
abbrev S32x5x1 : Shape := ⟨3, ![32, 5, 1]⟩
abbrev S32x5x36 : Shape := ⟨3, ![32, 5, 36]⟩
abbrev S32x4x36 : Shape := ⟨3, ![32, 4, 36]⟩
abbrev S32x1x1 : Shape := ⟨3, ![32, 1, 1]⟩
abbrev S32x4x1x36 : Shape := ⟨4, ![32, 4, 1, 36]⟩
abbrev S32x4x4x36 : Shape := ⟨4, ![32, 4, 4, 36]⟩
abbrev S512x36 : Shape := ⟨2, ![512, 36]⟩
abbrev S32x1x4x36 : Shape := ⟨4, ![32, 1, 4, 36]⟩
abbrev S36x1296 : Shape := ⟨2, ![36, 1296]⟩
abbrev S512x1296 : Shape := ⟨2, ![512, 1296]⟩
abbrev S256x256 : Shape := ⟨2, ![256, 256]⟩
abbrev S16x4096 : Shape := ⟨2, ![16, 4096]⟩
abbrev S1x16x4096 : Shape := ⟨3, ![1, 16, 4096]⟩
abbrev S256x256x4x4 : Shape := ⟨4, ![256, 256, 4, 4]⟩
abbrev S4x4x256x256 : Shape := ⟨4, ![4, 4, 256, 256]⟩
abbrev S4096x256 : Shape := ⟨2, ![4096, 256]⟩
abbrev S512x4096 : Shape := ⟨2, ![512, 4096]⟩
abbrev S256x1 : Shape := ⟨2, ![256, 1]⟩
abbrev S1x1 : Shape := ⟨2, ![1, 1]⟩
abbrev S512x1 : Shape := ⟨2, ![512, 1]⟩
abbrev S512x256 : Shape := ⟨2, ![512, 256]⟩
abbrev S8x4x16 : Shape := ⟨3, ![8, 4, 16]⟩

abbrev nBuf : Space → Nat
  | .hbm => 124
  | .vmem => 44
  | .smem => 0
  | _ => 0

abbrev bufTy : (tb : Table) → Fin (tcTables nBuf tb) → BufTy
  | .hbm, ⟨0, _⟩ => ⟨S8x4x256x36x36, .f32⟩
  | .hbm, ⟨1, _⟩ => ⟨S8x4x16x4, .f32⟩
  | .hbm, ⟨2, _⟩ => ⟨S256x256x3x3, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256x3x3, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256x3x3, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x4096, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S1x256, .f32⟩
  | .hbm, ⟨19, _⟩ => ⟨S1, .f32⟩
  | .hbm, ⟨20, _⟩ => ⟨S8192x36x36, .f32⟩
  | .hbm, ⟨21, _⟩ => ⟨S3x3x256x256, .f32⟩
  | .hbm, ⟨22, _⟩ => ⟨S3x768x256, .f32⟩
  | .hbm, ⟨23, _⟩ => ⟨S3x3x256x256, .f32⟩
  | .hbm, ⟨24, _⟩ => ⟨S3x768x256, .f32⟩
  | .hbm, ⟨25, _⟩ => ⟨S3x3x256x256, .f32⟩
  | .hbm, ⟨26, _⟩ => ⟨S3x768x256, .f32⟩
  | .hbm, ⟨27, _⟩ => ⟨S1x256, .f32⟩
  | .hbm, ⟨28, _⟩ => ⟨S32x1296x256, .f32⟩
  | .hbm, ⟨29, _⟩ => ⟨S32x8x256, .f32⟩
  | .hbm, ⟨30, _⟩ => ⟨S32x1x256, .f32⟩
  | .hbm, ⟨31, _⟩ => ⟨S32x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S32x1x256, .f32⟩
  | .hbm, ⟨38, _⟩ => ⟨S32x256, .f32⟩
  | .hbm, ⟨39, _⟩ => ⟨S_, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S32x1296x256, .f32⟩
  | .hbm, ⟨57, _⟩ => ⟨S32x8x256, .f32⟩
  | .hbm, ⟨58, _⟩ => ⟨S32x1x256, .f32⟩
  | .hbm, ⟨59, _⟩ => ⟨S32x256, .f32⟩
  | .hbm, ⟨60, _⟩ => ⟨S_, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S32x1x256, .f32⟩
  | .hbm, ⟨66, _⟩ => ⟨S32x256, .f32⟩
  | .hbm, ⟨67, _⟩ => ⟨S_, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S32x1296x256, .f32⟩
  | .hbm, ⟨85, _⟩ => ⟨S32x8x256, .f32⟩
  | .hbm, ⟨86, _⟩ => ⟨S32x1x256, .f32⟩
  | .hbm, ⟨87, _⟩ => ⟨S32x256, .f32⟩
  | .hbm, ⟨88, _⟩ => ⟨S_, .f32⟩
  | .hbm, ⟨89, _⟩ => ⟨S256, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S32x1x256, .f32⟩
  | .hbm, ⟨94, _⟩ => ⟨S32x256, .f32⟩
  | .hbm, ⟨95, _⟩ => ⟨S_, .f32⟩
  | .hbm, ⟨96, _⟩ => ⟨S256, .f32⟩
  | .hbm, ⟨97, _⟩ => ⟨S_, .f32⟩
  | .hbm, ⟨98, _⟩ => ⟨S256, .f32⟩
  | .hbm, ⟨99, _⟩ => ⟨S256, .f32⟩
  | .hbm, ⟨100, _⟩ => ⟨S256, .f32⟩
  | .hbm, ⟨101, _⟩ => ⟨S256, .f32⟩
  | .hbm, ⟨102, _⟩ => ⟨S_, .f32⟩
  | .hbm, ⟨103, _⟩ => ⟨S256, .f32⟩
  | .hbm, ⟨104, _⟩ => ⟨S256, .f32⟩
  | .hbm, ⟨105, _⟩ => ⟨S256, .f32⟩
  | .hbm, ⟨106, _⟩ => ⟨S256, .f32⟩
  | .hbm, ⟨107, _⟩ => ⟨S256, .f32⟩
  | .hbm, ⟨108, _⟩ => ⟨S256, .f32⟩
  | .hbm, ⟨109, _⟩ => ⟨S32x16x4, .f32⟩
  | .hbm, ⟨110, _⟩ => ⟨S1x256, .f32⟩
  | .hbm, ⟨111, _⟩ => ⟨S1x256, .f32⟩
  | .hbm, ⟨112, _⟩ => ⟨S32x16x4096, .f32⟩
  | .hbm, ⟨113, _⟩ => ⟨S256x256x4x4, .f32⟩
  | .hbm, ⟨114, _⟩ => ⟨S4x4x256x256, .f32⟩
  | .hbm, ⟨115, _⟩ => ⟨S4096x256, .f32⟩
  | .hbm, ⟨116, _⟩ => ⟨S512x4096, .f32⟩
  | .hbm, ⟨117, _⟩ => ⟨S256x1, .f32⟩
  | .hbm, ⟨118, _⟩ => ⟨S1x256, .f32⟩
  | .hbm, ⟨119, _⟩ => ⟨S1x256, .f32⟩
  | .hbm, ⟨120, _⟩ => ⟨S1x256, .f32⟩
  | .hbm, ⟨121, _⟩ => ⟨S1x1, .f32⟩
  | .hbm, ⟨122, _⟩ => ⟨S512x1, .f32⟩
  | .hbm, ⟨123, _⟩ => ⟨S8x4x16, .f32⟩
  | .local _ .vmem, ⟨0, _⟩ => ⟨S512x36x36, .f32⟩
  | .local _ .vmem, ⟨1, _⟩ => ⟨S512x36x36, .f32⟩
  | .local _ .vmem, ⟨2, _⟩ => ⟨S3x768x256, .f32⟩
  | .local _ .vmem, ⟨3, _⟩ => ⟨S1x256, .f32⟩
  | .local _ .vmem, ⟨4, _⟩ => ⟨S2x1296x256, .f32⟩
  | .local _ .vmem, ⟨5, _⟩ => ⟨S2x1296x256, .f32⟩
  | .local _ .vmem, ⟨6, _⟩ => ⟨S2x8x256, .f32⟩
  | .local _ .vmem, ⟨7, _⟩ => ⟨S2x8x256, .f32⟩
  | .local _ .vmem, ⟨8, _⟩ => ⟨S2x1296x256, .f32⟩
  | .local _ .vmem, ⟨9, _⟩ => ⟨S2x1296x256, .f32⟩
  | .local _ .vmem, ⟨10, _⟩ => ⟨S3x768x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x1296x256, .f32⟩
  | .local _ .vmem, ⟨15, _⟩ => ⟨S2x1296x256, .f32⟩
  | .local _ .vmem, ⟨16, _⟩ => ⟨S2x8x256, .f32⟩
  | .local _ .vmem, ⟨17, _⟩ => ⟨S2x8x256, .f32⟩
  | .local _ .vmem, ⟨18, _⟩ => ⟨S2x1296x256, .f32⟩
  | .local _ .vmem, ⟨19, _⟩ => ⟨S2x1296x256, .f32⟩
  | .local _ .vmem, ⟨20, _⟩ => ⟨S3x768x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2x1296x256, .f32⟩
  | .local _ .vmem, ⟨25, _⟩ => ⟨S2x1296x256, .f32⟩
  | .local _ .vmem, ⟨26, _⟩ => ⟨S2x8x256, .f32⟩
  | .local _ .vmem, ⟨27, _⟩ => ⟨S2x8x256, .f32⟩
  | .local _ .vmem, ⟨28, _⟩ => ⟨S2x1296x256, .f32⟩
  | .local _ .vmem, ⟨29, _⟩ => ⟨S2x1296x256, .f32⟩
  | .local _ .vmem, ⟨30, _⟩ => ⟨S2x16x4, .f32⟩
  | .local _ .vmem, ⟨31, _⟩ => ⟨S2x16x4, .f32⟩
  | .local _ .vmem, ⟨32, _⟩ => ⟨S1x256, .f32⟩
  | .local _ .vmem, ⟨33, _⟩ => ⟨S1x256, .f32⟩
  | .local _ .vmem, ⟨34, _⟩ => ⟨S2x16x4096, .f32⟩
  | .local _ .vmem, ⟨35, _⟩ => ⟨S2x16x4096, .f32⟩
  | .local _ .vmem, ⟨36, _⟩ => ⟨S512x4096, .f32⟩
  | .local _ .vmem, ⟨37, _⟩ => ⟨S4096x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S256x1, .f32⟩
  | .local _ .vmem, ⟨42, _⟩ => ⟨S1x1, .f32⟩
  | .local _ .vmem, ⟨43, _⟩ => ⟨S512x1, .f32⟩
  | _, _ => ⟨S8x4x256x36x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52_0 : Ref sig .tc := ⟨.hbm, 84, rfl⟩
abbrev main_v52_1 : Ref sig .tc := ⟨.hbm, 85, rfl⟩
abbrev main_v53 : Ref sig .tc := ⟨.hbm, 86, rfl⟩
abbrev main_v54 : Ref sig .tc := ⟨.hbm, 87, rfl⟩
abbrev main_cst_9 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_11 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x36x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1296x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x1296x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x1296x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x8x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x1296x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x768x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2x1296x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2x8x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2x1296x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x16x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2x16x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := .none

abbrev stage4_0 : Fin 1 → Memref sig .tc .vmem S512x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4096x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S256x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S512x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
-- ==== ReferenceIdeal.lean ====
abbrev S8x4x256x36x36 : Shape := ⟨5, ![8, 4, 256, 36, 36]⟩
abbrev S8x4x16x4 : Shape := ⟨4, ![8, 4, 16, 4]⟩
abbrev S256x256x3x3 : Shape := ⟨4, ![256, 256, 3, 3]⟩
abbrev S256 : Shape := ⟨1, ![256]⟩
abbrev S256x4096 : Shape := ⟨2, ![256, 4096]⟩
abbrev S1x256 : Shape := ⟨2, ![1, 256]⟩
abbrev S1 : Shape := ⟨1, ![1]⟩
abbrev S32x256x36x36 : Shape := ⟨4, ![32, 256, 36, 36]⟩
abbrev S_ : Shape := ⟨0, ![]⟩
abbrev S32x256x38x38 : Shape := ⟨4, ![32, 256, 38, 38]⟩
abbrev S256x256x1x1 : Shape := ⟨4, ![256, 256, 1, 1]⟩
abbrev S256x256 : Shape := ⟨2, ![256, 256]⟩
abbrev S32x36x36x256 : Shape := ⟨4, ![32, 36, 36, 256]⟩
abbrev S1x256x1x1 : Shape := ⟨4, ![1, 256, 1, 1]⟩
abbrev S32x16x4 : Shape := ⟨3, ![32, 16, 4]⟩
abbrev S32x16x2 : Shape := ⟨3, ![32, 16, 2]⟩
abbrev S32 : Shape := ⟨1, ![32]⟩
abbrev S32x1x1 : Shape := ⟨3, ![32, 1, 1]⟩
abbrev S32x16x1 : Shape := ⟨3, ![32, 16, 1]⟩
abbrev S32x16x5 : Shape := ⟨3, ![32, 16, 5]⟩
abbrev S512x5 : Shape := ⟨2, ![512, 5]⟩
abbrev S32x256x36x35 : Shape := ⟨4, ![32, 256, 36, 35]⟩
abbrev S32x256x36x1 : Shape := ⟨4, ![32, 256, 36, 1]⟩
abbrev S512x1 : Shape := ⟨2, ![512, 1]⟩
abbrev S512 : Shape := ⟨1, ![512]⟩
abbrev S5 : Shape := ⟨1, ![5]⟩
abbrev S1x5 : Shape := ⟨2, ![1, 5]⟩
abbrev S512x1x5x1 : Shape := ⟨4, ![512, 1, 5, 1]⟩
abbrev S512x5x1x1 : Shape := ⟨4, ![512, 5, 1, 1]⟩
abbrev S512x1x1 : Shape := ⟨3, ![512, 1, 1]⟩
abbrev S512x5x1 : Shape := ⟨3, ![512, 5, 1]⟩
abbrev S512x1x5 : Shape := ⟨3, ![512, 1, 5]⟩
abbrev S512x5x5 : Shape := ⟨3, ![512, 5, 5]⟩
abbrev S512x5x5x1 : Shape := ⟨4, ![512, 5, 5, 1]⟩
abbrev S512x5x5x3 : Shape := ⟨4, ![512, 5, 5, 3]⟩
abbrev S512x5x5x256 : Shape := ⟨4, ![512, 5, 5, 256]⟩
abbrev S512x4x4x256 : Shape := ⟨4, ![512, 4, 4, 256]⟩
abbrev S512x1x1x1 : Shape := ⟨4, ![512, 1, 1, 1]⟩
abbrev S512x256x4x4 : Shape := ⟨4, ![512, 256, 4, 4]⟩
abbrev S512x4096 : Shape := ⟨2, ![512, 4096]⟩
abbrev S4096x256 : Shape := ⟨2, ![4096, 256]⟩
abbrev S512x256 : Shape := ⟨2, ![512, 256]⟩
abbrev S256x1 : Shape := ⟨2, ![256, 1]⟩
abbrev S1x1 : Shape := ⟨2, ![1, 1]⟩
abbrev S8x4x16 : Shape := ⟨3, ![8, 4, 16]⟩

abbrev nBuf : Space → Nat
  | .hbm => 845
  | .vmem => 0
  | .smem => 0
  | _ => 0

abbrev hbmTy0_0 (i : Nat) : BufTy := match i % 128 with
  | 0 => ⟨S8x4x256x36x36, .f32⟩
  | 1 => ⟨S8x4x16x4, .f32⟩
  | 2 => ⟨S256x256x3x3, .f32⟩
  | 3 => ⟨S256, .f32⟩
  | 4 => ⟨S256, .f32⟩
  | 5 => ⟨S256, .f32⟩
  | 6 => ⟨S256x256x3x3, .f32⟩
  | 7 => ⟨S256, .f32⟩
  | 8 => ⟨S256, .f32⟩
  | 9 => ⟨S256, .f32⟩
  | 10 => ⟨S256x256x3x3, .f32⟩
  | 11 => ⟨S256, .f32⟩
  | 12 => ⟨S256, .f32⟩
  | 13 => ⟨S256, .f32⟩
  | 14 => ⟨S256x4096, .f32⟩
  | 15 => ⟨S256, .f32⟩
  | 16 => ⟨S256, .f32⟩
  | 17 => ⟨S256, .f32⟩
  | 18 => ⟨S1x256, .f32⟩
  | 19 => ⟨S1, .f32⟩
  | 20 => ⟨S32x256x36x36, .f32⟩
  | 21 => ⟨S_, .i32⟩
  | 22 => ⟨S_, .f32⟩
  | 23 => ⟨S32x256x38x38, .f32⟩
  | 24 => ⟨S_, .f32⟩
  | 25 => ⟨S32x256x36x36, .f32⟩
  | 26 => ⟨S256x256x1x1, .f32⟩
  | 27 => ⟨S256x256, .f32⟩
  | 28 => ⟨S32x256x36x36, .f32⟩
  | 29 => ⟨S32x36x36x256, .f32⟩
  | 30 => ⟨S32x256x36x36, .f32⟩
  | 31 => ⟨S32x256x36x36, .f32⟩
  | 32 => ⟨S256x256x1x1, .f32⟩
  | 33 => ⟨S256x256, .f32⟩
  | 34 => ⟨S32x256x36x36, .f32⟩
  | 35 => ⟨S32x36x36x256, .f32⟩
  | 36 => ⟨S32x256x36x36, .f32⟩
  | 37 => ⟨S32x256x36x36, .f32⟩
  | 38 => ⟨S256x256x1x1, .f32⟩
  | 39 => ⟨S256x256, .f32⟩
  | 40 => ⟨S32x256x36x36, .f32⟩
  | 41 => ⟨S32x36x36x256, .f32⟩
  | 42 => ⟨S32x256x36x36, .f32⟩
  | 43 => ⟨S32x256x36x36, .f32⟩
  | 44 => ⟨S256x256x1x1, .f32⟩
  | 45 => ⟨S256x256, .f32⟩
  | 46 => ⟨S32x256x36x36, .f32⟩
  | 47 => ⟨S32x36x36x256, .f32⟩
  | 48 => ⟨S32x256x36x36, .f32⟩
  | 49 => ⟨S32x256x36x36, .f32⟩
  | 50 => ⟨S256x256x1x1, .f32⟩
  | 51 => ⟨S256x256, .f32⟩
  | 52 => ⟨S32x256x36x36, .f32⟩
  | 53 => ⟨S32x36x36x256, .f32⟩
  | 54 => ⟨S32x256x36x36, .f32⟩
  | 55 => ⟨S32x256x36x36, .f32⟩
  | 56 => ⟨S256x256x1x1, .f32⟩
  | 57 => ⟨S256x256, .f32⟩
  | 58 => ⟨S32x256x36x36, .f32⟩
  | 59 => ⟨S32x36x36x256, .f32⟩
  | 60 => ⟨S32x256x36x36, .f32⟩
  | 61 => ⟨S32x256x36x36, .f32⟩
  | 62 => ⟨S256x256x1x1, .f32⟩
  | 63 => ⟨S256x256, .f32⟩
  | 64 => ⟨S32x256x36x36, .f32⟩
  | 65 => ⟨S32x36x36x256, .f32⟩
  | 66 => ⟨S32x256x36x36, .f32⟩
  | 67 => ⟨S32x256x36x36, .f32⟩
  | 68 => ⟨S256x256x1x1, .f32⟩
  | 69 => ⟨S256x256, .f32⟩
  | 70 => ⟨S32x256x36x36, .f32⟩
  | 71 => ⟨S32x36x36x256, .f32⟩
  | 72 => ⟨S32x256x36x36, .f32⟩
  | 73 => ⟨S32x256x36x36, .f32⟩
  | 74 => ⟨S256x256x1x1, .f32⟩
  | 75 => ⟨S256x256, .f32⟩
  | 76 => ⟨S32x256x36x36, .f32⟩
  | 77 => ⟨S32x36x36x256, .f32⟩
  | 78 => ⟨S32x256x36x36, .f32⟩
  | 79 => ⟨S32x256x36x36, .f32⟩
  | 80 => ⟨S1x256x1x1, .f32⟩
  | 81 => ⟨S32x256x36x36, .f32⟩
  | 82 => ⟨S32x256x36x36, .f32⟩
  | 83 => ⟨S_, .f32⟩
  | 84 => ⟨S256, .f32⟩
  | 85 => ⟨S1x256x1x1, .f32⟩
  | 86 => ⟨S_, .f32⟩
  | 87 => ⟨S1x256x1x1, .f32⟩
  | 88 => ⟨S1x256x1x1, .f32⟩
  | 89 => ⟨S32x256x36x36, .f32⟩
  | 90 => ⟨S32x256x36x36, .f32⟩
  | 91 => ⟨S32x256x36x36, .f32⟩
  | 92 => ⟨S_, .f32⟩
  | 93 => ⟨S256, .f32⟩
  | 94 => ⟨S1x256x1x1, .f32⟩
  | 95 => ⟨S_, .f32⟩
  | 96 => ⟨S1x256x1x1, .f32⟩
  | 97 => ⟨S1x256x1x1, .f32⟩
  | 98 => ⟨S32x256x36x36, .f32⟩
  | 99 => ⟨S32x256x36x36, .f32⟩
  | 100 => ⟨S_, .f32⟩
  | 101 => ⟨S1x256x1x1, .f32⟩
  | 102 => ⟨S1x256x1x1, .f32⟩
  | 103 => ⟨S1x256x1x1, .f32⟩
  | 104 => ⟨S32x256x36x36, .f32⟩
  | 105 => ⟨S32x256x36x36, .f32⟩
  | 106 => ⟨S1x256x1x1, .f32⟩
  | 107 => ⟨S32x256x36x36, .f32⟩
  | 108 => ⟨S32x256x36x36, .f32⟩
  | 109 => ⟨S1x256x1x1, .f32⟩
  | 110 => ⟨S32x256x36x36, .f32⟩
  | 111 => ⟨S32x256x36x36, .f32⟩
  | 112 => ⟨S_, .f32⟩
  | 113 => ⟨S32x256x36x36, .f32⟩
  | 114 => ⟨S32x256x36x36, .f32⟩
  | 115 => ⟨S_, .i32⟩
  | 116 => ⟨S_, .f32⟩
  | 117 => ⟨S32x256x38x38, .f32⟩
  | 118 => ⟨S_, .f32⟩
  | 119 => ⟨S32x256x36x36, .f32⟩
  | 120 => ⟨S256x256x1x1, .f32⟩
  | 121 => ⟨S256x256, .f32⟩
  | 122 => ⟨S32x256x36x36, .f32⟩
  | 123 => ⟨S32x36x36x256, .f32⟩
  | 124 => ⟨S32x256x36x36, .f32⟩
  | 125 => ⟨S32x256x36x36, .f32⟩
  | 126 => ⟨S256x256x1x1, .f32⟩
  | 127 => ⟨S256x256, .f32⟩
  | _ => ⟨S8x4x256x36x36, .f32⟩

abbrev hbmTy0_1 (i : Nat) : BufTy := match i % 128 with
  | 0 => ⟨S32x256x36x36, .f32⟩
  | 1 => ⟨S32x36x36x256, .f32⟩
  | 2 => ⟨S32x256x36x36, .f32⟩
  | 3 => ⟨S32x256x36x36, .f32⟩
  | 4 => ⟨S256x256x1x1, .f32⟩
  | 5 => ⟨S256x256, .f32⟩
  | 6 => ⟨S32x256x36x36, .f32⟩
  | 7 => ⟨S32x36x36x256, .f32⟩
  | 8 => ⟨S32x256x36x36, .f32⟩
  | 9 => ⟨S32x256x36x36, .f32⟩
  | 10 => ⟨S256x256x1x1, .f32⟩
  | 11 => ⟨S256x256, .f32⟩
  | 12 => ⟨S32x256x36x36, .f32⟩
  | 13 => ⟨S32x36x36x256, .f32⟩
  | 14 => ⟨S32x256x36x36, .f32⟩
  | 15 => ⟨S32x256x36x36, .f32⟩
  | 16 => ⟨S256x256x1x1, .f32⟩
  | 17 => ⟨S256x256, .f32⟩
  | 18 => ⟨S32x256x36x36, .f32⟩
  | 19 => ⟨S32x36x36x256, .f32⟩
  | 20 => ⟨S32x256x36x36, .f32⟩
  | 21 => ⟨S32x256x36x36, .f32⟩
  | 22 => ⟨S256x256x1x1, .f32⟩
  | 23 => ⟨S256x256, .f32⟩
  | 24 => ⟨S32x256x36x36, .f32⟩
  | 25 => ⟨S32x36x36x256, .f32⟩
  | 26 => ⟨S32x256x36x36, .f32⟩
  | 27 => ⟨S32x256x36x36, .f32⟩
  | 28 => ⟨S256x256x1x1, .f32⟩
  | 29 => ⟨S256x256, .f32⟩
  | 30 => ⟨S32x256x36x36, .f32⟩
  | 31 => ⟨S32x36x36x256, .f32⟩
  | 32 => ⟨S32x256x36x36, .f32⟩
  | 33 => ⟨S32x256x36x36, .f32⟩
  | 34 => ⟨S256x256x1x1, .f32⟩
  | 35 => ⟨S256x256, .f32⟩
  | 36 => ⟨S32x256x36x36, .f32⟩
  | 37 => ⟨S32x36x36x256, .f32⟩
  | 38 => ⟨S32x256x36x36, .f32⟩
  | 39 => ⟨S32x256x36x36, .f32⟩
  | 40 => ⟨S256x256x1x1, .f32⟩
  | 41 => ⟨S256x256, .f32⟩
  | 42 => ⟨S32x256x36x36, .f32⟩
  | 43 => ⟨S32x36x36x256, .f32⟩
  | 44 => ⟨S32x256x36x36, .f32⟩
  | 45 => ⟨S32x256x36x36, .f32⟩
  | 46 => ⟨S1x256x1x1, .f32⟩
  | 47 => ⟨S32x256x36x36, .f32⟩
  | 48 => ⟨S32x256x36x36, .f32⟩
  | 49 => ⟨S_, .f32⟩
  | 50 => ⟨S256, .f32⟩
  | 51 => ⟨S1x256x1x1, .f32⟩
  | 52 => ⟨S_, .f32⟩
  | 53 => ⟨S1x256x1x1, .f32⟩
  | 54 => ⟨S1x256x1x1, .f32⟩
  | 55 => ⟨S32x256x36x36, .f32⟩
  | 56 => ⟨S32x256x36x36, .f32⟩
  | 57 => ⟨S32x256x36x36, .f32⟩
  | 58 => ⟨S_, .f32⟩
  | 59 => ⟨S256, .f32⟩
  | 60 => ⟨S1x256x1x1, .f32⟩
  | 61 => ⟨S_, .f32⟩
  | 62 => ⟨S1x256x1x1, .f32⟩
  | 63 => ⟨S1x256x1x1, .f32⟩
  | 64 => ⟨S32x256x36x36, .f32⟩
  | 65 => ⟨S32x256x36x36, .f32⟩
  | 66 => ⟨S_, .f32⟩
  | 67 => ⟨S1x256x1x1, .f32⟩
  | 68 => ⟨S1x256x1x1, .f32⟩
  | 69 => ⟨S1x256x1x1, .f32⟩
  | 70 => ⟨S32x256x36x36, .f32⟩
  | 71 => ⟨S32x256x36x36, .f32⟩
  | 72 => ⟨S1x256x1x1, .f32⟩
  | 73 => ⟨S32x256x36x36, .f32⟩
  | 74 => ⟨S32x256x36x36, .f32⟩
  | 75 => ⟨S1x256x1x1, .f32⟩
  | 76 => ⟨S32x256x36x36, .f32⟩
  | 77 => ⟨S32x256x36x36, .f32⟩
  | 78 => ⟨S_, .f32⟩
  | 79 => ⟨S32x256x36x36, .f32⟩
  | 80 => ⟨S32x256x36x36, .f32⟩
  | 81 => ⟨S_, .i32⟩
  | 82 => ⟨S_, .f32⟩
  | 83 => ⟨S32x256x38x38, .f32⟩
  | 84 => ⟨S_, .f32⟩
  | 85 => ⟨S32x256x36x36, .f32⟩
  | 86 => ⟨S256x256x1x1, .f32⟩
  | 87 => ⟨S256x256, .f32⟩
  | 88 => ⟨S32x256x36x36, .f32⟩
  | 89 => ⟨S32x36x36x256, .f32⟩
  | 90 => ⟨S32x256x36x36, .f32⟩
  | 91 => ⟨S32x256x36x36, .f32⟩
  | 92 => ⟨S256x256x1x1, .f32⟩
  | 93 => ⟨S256x256, .f32⟩
  | 94 => ⟨S32x256x36x36, .f32⟩
  | 95 => ⟨S32x36x36x256, .f32⟩
  | 96 => ⟨S32x256x36x36, .f32⟩
  | 97 => ⟨S32x256x36x36, .f32⟩
  | 98 => ⟨S256x256x1x1, .f32⟩
  | 99 => ⟨S256x256, .f32⟩
  | 100 => ⟨S32x256x36x36, .f32⟩
  | 101 => ⟨S32x36x36x256, .f32⟩
  | 102 => ⟨S32x256x36x36, .f32⟩
  | 103 => ⟨S32x256x36x36, .f32⟩
  | 104 => ⟨S256x256x1x1, .f32⟩
  | 105 => ⟨S256x256, .f32⟩
  | 106 => ⟨S32x256x36x36, .f32⟩
  | 107 => ⟨S32x36x36x256, .f32⟩
  | 108 => ⟨S32x256x36x36, .f32⟩
  | 109 => ⟨S32x256x36x36, .f32⟩
  | 110 => ⟨S256x256x1x1, .f32⟩
  | 111 => ⟨S256x256, .f32⟩
  | 112 => ⟨S32x256x36x36, .f32⟩
  | 113 => ⟨S32x36x36x256, .f32⟩
  | 114 => ⟨S32x256x36x36, .f32⟩
  | 115 => ⟨S32x256x36x36, .f32⟩
  | 116 => ⟨S256x256x1x1, .f32⟩
  | 117 => ⟨S256x256, .f32⟩
  | 118 => ⟨S32x256x36x36, .f32⟩
  | 119 => ⟨S32x36x36x256, .f32⟩
  | 120 => ⟨S32x256x36x36, .f32⟩
  | 121 => ⟨S32x256x36x36, .f32⟩
  | 122 => ⟨S256x256x1x1, .f32⟩
  | 123 => ⟨S256x256, .f32⟩
  | 124 => ⟨S32x256x36x36, .f32⟩
  | 125 => ⟨S32x36x36x256, .f32⟩
  | 126 => ⟨S32x256x36x36, .f32⟩
  | 127 => ⟨S32x256x36x36, .f32⟩
  | _ => ⟨S8x4x256x36x36, .f32⟩

abbrev hbmTy0_2 (i : Nat) : BufTy := match i % 128 with
  | 0 => ⟨S256x256x1x1, .f32⟩
  | 1 => ⟨S256x256, .f32⟩
  | 2 => ⟨S32x256x36x36, .f32⟩
  | 3 => ⟨S32x36x36x256, .f32⟩
  | 4 => ⟨S32x256x36x36, .f32⟩
  | 5 => ⟨S32x256x36x36, .f32⟩
  | 6 => ⟨S256x256x1x1, .f32⟩
  | 7 => ⟨S256x256, .f32⟩
  | 8 => ⟨S32x256x36x36, .f32⟩
  | 9 => ⟨S32x36x36x256, .f32⟩
  | 10 => ⟨S32x256x36x36, .f32⟩
  | 11 => ⟨S32x256x36x36, .f32⟩
  | 12 => ⟨S1x256x1x1, .f32⟩
  | 13 => ⟨S32x256x36x36, .f32⟩
  | 14 => ⟨S32x256x36x36, .f32⟩
  | 15 => ⟨S_, .f32⟩
  | 16 => ⟨S256, .f32⟩
  | 17 => ⟨S1x256x1x1, .f32⟩
  | 18 => ⟨S_, .f32⟩
  | 19 => ⟨S1x256x1x1, .f32⟩
  | 20 => ⟨S1x256x1x1, .f32⟩
  | 21 => ⟨S32x256x36x36, .f32⟩
  | 22 => ⟨S32x256x36x36, .f32⟩
  | 23 => ⟨S32x256x36x36, .f32⟩
  | 24 => ⟨S_, .f32⟩
  | 25 => ⟨S256, .f32⟩
  | 26 => ⟨S1x256x1x1, .f32⟩
  | 27 => ⟨S_, .f32⟩
  | 28 => ⟨S1x256x1x1, .f32⟩
  | 29 => ⟨S1x256x1x1, .f32⟩
  | 30 => ⟨S32x256x36x36, .f32⟩
  | 31 => ⟨S32x256x36x36, .f32⟩
  | 32 => ⟨S_, .f32⟩
  | 33 => ⟨S1x256x1x1, .f32⟩
  | 34 => ⟨S1x256x1x1, .f32⟩
  | 35 => ⟨S1x256x1x1, .f32⟩
  | 36 => ⟨S32x256x36x36, .f32⟩
  | 37 => ⟨S32x256x36x36, .f32⟩
  | 38 => ⟨S1x256x1x1, .f32⟩
  | 39 => ⟨S32x256x36x36, .f32⟩
  | 40 => ⟨S32x256x36x36, .f32⟩
  | 41 => ⟨S1x256x1x1, .f32⟩
  | 42 => ⟨S32x256x36x36, .f32⟩
  | 43 => ⟨S32x256x36x36, .f32⟩
  | 44 => ⟨S_, .f32⟩
  | 45 => ⟨S32x256x36x36, .f32⟩
  | 46 => ⟨S32x256x36x36, .f32⟩
  | 47 => ⟨S32x16x4, .f32⟩
  | 48 => ⟨S32x16x2, .f32⟩
  | 49 => ⟨S32x16x2, .f32⟩
  | 50 => ⟨S32x16x2, .f32⟩
  | 51 => ⟨S32x16x2, .f32⟩
  | 52 => ⟨S32x16x4, .f32⟩
  | 53 => ⟨S32, .f32⟩
  | 54 => ⟨S32x1x1, .f32⟩
  | 55 => ⟨S32x16x1, .f32⟩
  | 56 => ⟨S32x16x5, .f32⟩
  | 57 => ⟨S512x5, .f32⟩
  | 58 => ⟨S32x256x36x35, .f32⟩
  | 59 => ⟨S32x256x36x35, .f32⟩
  | 60 => ⟨S32x256x36x35, .f32⟩
  | 61 => ⟨S_, .f32⟩
  | 62 => ⟨S32x256x36x35, .f32⟩
  | 63 => ⟨S32x256x36x35, .f32⟩
  | 64 => ⟨S32x256x36x1, .f32⟩
  | 65 => ⟨S_, .f32⟩
  | 66 => ⟨S32x256x36x1, .f32⟩
  | 67 => ⟨S_, .f32⟩
  | 68 => ⟨S_, .f32⟩
  | 69 => ⟨S32x256x36x35, .f32⟩
  | 70 => ⟨S32x256x36x36, .f32⟩
  | 71 => ⟨S32x256x36x36, .f32⟩
  | 72 => ⟨S32x256x36x35, .f32⟩
  | 73 => ⟨S32x256x36x35, .f32⟩
  | 74 => ⟨S32x256x36x35, .f32⟩
  | 75 => ⟨S_, .f32⟩
  | 76 => ⟨S32x256x36x35, .f32⟩
  | 77 => ⟨S32x256x36x35, .f32⟩
  | 78 => ⟨S32x256x36x1, .f32⟩
  | 79 => ⟨S_, .f32⟩
  | 80 => ⟨S32x256x36x1, .f32⟩
  | 81 => ⟨S_, .f32⟩
  | 82 => ⟨S_, .f32⟩
  | 83 => ⟨S32x256x36x35, .f32⟩
  | 84 => ⟨S32x256x36x36, .f32⟩
  | 85 => ⟨S32x256x36x36, .f32⟩
  | 86 => ⟨S32x256x36x36, .f32⟩
  | 87 => ⟨S32x256x36x35, .f32⟩
  | 88 => ⟨S32x256x36x35, .f32⟩
  | 89 => ⟨S32x256x36x35, .f32⟩
  | 90 => ⟨S_, .f32⟩
  | 91 => ⟨S32x256x36x35, .f32⟩
  | 92 => ⟨S32x256x36x35, .f32⟩
  | 93 => ⟨S32x256x36x1, .f32⟩
  | 94 => ⟨S_, .f32⟩
  | 95 => ⟨S32x256x36x1, .f32⟩
  | 96 => ⟨S_, .f32⟩
  | 97 => ⟨S_, .f32⟩
  | 98 => ⟨S32x256x36x35, .f32⟩
  | 99 => ⟨S32x256x36x36, .f32⟩
  | 100 => ⟨S32x256x36x36, .f32⟩
  | 101 => ⟨S512x1, .f32⟩
  | 102 => ⟨S512, .f32⟩
  | 103 => ⟨S512, .i32⟩
  | 104 => ⟨S512x1, .f32⟩
  | 105 => ⟨S512, .f32⟩
  | 106 => ⟨S_, .f32⟩
  | 107 => ⟨S512, .f32⟩
  | 108 => ⟨S512, .f32⟩
  | 109 => ⟨S512x1, .f32⟩
  | 110 => ⟨S512, .f32⟩
  | 111 => ⟨S_, .f32⟩
  | 112 => ⟨S512, .f32⟩
  | 113 => ⟨S512, .f32⟩
  | 114 => ⟨S512x1, .f32⟩
  | 115 => ⟨S512, .f32⟩
  | 116 => ⟨S_, .f32⟩
  | 117 => ⟨S512, .f32⟩
  | 118 => ⟨S512, .f32⟩
  | 119 => ⟨S512x1, .f32⟩
  | 120 => ⟨S512, .f32⟩
  | 121 => ⟨S_, .f32⟩
  | 122 => ⟨S512, .f32⟩
  | 123 => ⟨S512, .f32⟩
  | 124 => ⟨S512, .f32⟩
  | 125 => ⟨S_, .f32⟩
  | 126 => ⟨S512, .f32⟩
  | 127 => ⟨S512, .f32⟩
  | _ => ⟨S8x4x256x36x36, .f32⟩

abbrev hbmTy0_3 (i : Nat) : BufTy := match i % 128 with
  | 0 => ⟨S512, .f32⟩
  | 1 => ⟨S_, .f32⟩
  | 2 => ⟨S512, .f32⟩
  | 3 => ⟨S512, .f32⟩
  | 4 => ⟨S5, .f32⟩
  | 5 => ⟨S512x1, .f32⟩
  | 6 => ⟨S512x1, .f32⟩
  | 7 => ⟨S1x5, .f32⟩
  | 8 => ⟨S512x5, .f32⟩
  | 9 => ⟨S512x5, .f32⟩
  | 10 => ⟨S512x5, .f32⟩
  | 11 => ⟨S512x5, .f32⟩
  | 12 => ⟨S512x5, .f32⟩
  | 13 => ⟨S_, .f32⟩
  | 14 => ⟨S_, .i32⟩
  | 15 => ⟨S_, .f32⟩
  | 16 => ⟨S512x5, .f32⟩
  | 17 => ⟨S512x5, .f32⟩
  | 18 => ⟨S_, .f32⟩
  | 19 => ⟨S512x5, .f32⟩
  | 20 => ⟨S512x5, .f32⟩
  | 21 => ⟨S512x1, .f32⟩
  | 22 => ⟨S512x1, .f32⟩
  | 23 => ⟨S1x5, .f32⟩
  | 24 => ⟨S512x5, .f32⟩
  | 25 => ⟨S512x5, .f32⟩
  | 26 => ⟨S512x5, .f32⟩
  | 27 => ⟨S512x5, .f32⟩
  | 28 => ⟨S512x5, .f32⟩
  | 29 => ⟨S_, .f32⟩
  | 30 => ⟨S_, .i32⟩
  | 31 => ⟨S_, .f32⟩
  | 32 => ⟨S512x5, .f32⟩
  | 33 => ⟨S512x5, .f32⟩
  | 34 => ⟨S_, .f32⟩
  | 35 => ⟨S512x5, .f32⟩
  | 36 => ⟨S512x5, .f32⟩
  | 37 => ⟨S512x5, .f32⟩
  | 38 => ⟨S_, .i32⟩
  | 39 => ⟨S_, .i32⟩
  | 40 => ⟨S_, .f32⟩
  | 41 => ⟨S512x5, .f32⟩
  | 42 => ⟨S512x5, .f32⟩
  | 43 => ⟨S_, .f32⟩
  | 44 => ⟨S512x5, .f32⟩
  | 45 => ⟨S512x5, .f32⟩
  | 46 => ⟨S512x5, .i32⟩
  | 47 => ⟨S512x5, .f32⟩
  | 48 => ⟨S_, .i32⟩
  | 49 => ⟨S_, .i32⟩
  | 50 => ⟨S_, .f32⟩
  | 51 => ⟨S512x5, .f32⟩
  | 52 => ⟨S512x5, .f32⟩
  | 53 => ⟨S_, .f32⟩
  | 54 => ⟨S512x5, .f32⟩
  | 55 => ⟨S512x5, .f32⟩
  | 56 => ⟨S512x5, .i32⟩
  | 57 => ⟨S512x5, .f32⟩
  | 58 => ⟨S512x5, .f32⟩
  | 59 => ⟨S512x5, .f32⟩
  | 60 => ⟨S512x5, .f32⟩
  | 61 => ⟨S_, .f32⟩
  | 62 => ⟨S512x5, .f32⟩
  | 63 => ⟨S512x5, .f32⟩
  | 64 => ⟨S512x5, .f32⟩
  | 65 => ⟨S512x5, .f32⟩
  | 66 => ⟨S_, .f32⟩
  | 67 => ⟨S512x5, .f32⟩
  | 68 => ⟨S512x5, .f32⟩
  | 69 => ⟨S512x5, .f32⟩
  | 70 => ⟨S512x5, .f32⟩
  | 71 => ⟨S512x1x5x1, .f32⟩
  | 72 => ⟨S512x1x5x1, .f32⟩
  | 73 => ⟨S512x5x1x1, .f32⟩
  | 74 => ⟨S512x5x1x1, .f32⟩
  | 75 => ⟨S_, .i32⟩
  | 76 => ⟨S512x5, .i32⟩
  | 77 => ⟨S512x5, .i32⟩
  | 78 => ⟨S_, .i32⟩
  | 79 => ⟨S512x5, .i32⟩
  | 80 => ⟨S512x5, .i32⟩
  | 81 => ⟨S512x1x1, .i32⟩
  | 82 => ⟨S512x5x1, .i32⟩
  | 83 => ⟨S512x1x5, .i32⟩
  | 84 => ⟨S_, .i32⟩
  | 85 => ⟨S512x1x1, .i32⟩
  | 86 => ⟨S512x1x1, .i1⟩
  | 87 => ⟨S_, .i32⟩
  | 88 => ⟨S512x1x1, .i32⟩
  | 89 => ⟨S512x1x1, .i32⟩
  | 90 => ⟨S512x1x1, .i32⟩
  | 91 => ⟨S_, .i32⟩
  | 92 => ⟨S512x5x1, .i32⟩
  | 93 => ⟨S512x5x1, .i1⟩
  | 94 => ⟨S_, .i32⟩
  | 95 => ⟨S512x5x1, .i32⟩
  | 96 => ⟨S512x5x1, .i32⟩
  | 97 => ⟨S512x5x1, .i32⟩
  | 98 => ⟨S_, .i32⟩
  | 99 => ⟨S512x1x5, .i32⟩
  | 100 => ⟨S512x1x5, .i1⟩
  | 101 => ⟨S_, .i32⟩
  | 102 => ⟨S512x1x5, .i32⟩
  | 103 => ⟨S512x1x5, .i32⟩
  | 104 => ⟨S512x1x5, .i32⟩
  | 105 => ⟨S512x5x5, .i32⟩
  | 106 => ⟨S512x5x5, .i32⟩
  | 107 => ⟨S512x5x5, .i32⟩
  | 108 => ⟨S512x5x5x1, .i32⟩
  | 109 => ⟨S512x5x5x1, .i32⟩
  | 110 => ⟨S512x5x5x1, .i32⟩
  | 111 => ⟨S512x5x5x3, .i32⟩
  | 112 => ⟨S512x5x5x256, .f32⟩
  | 113 => ⟨S512x1x1, .i32⟩
  | 114 => ⟨S512x5x1, .i32⟩
  | 115 => ⟨S512x1x5, .i32⟩
  | 116 => ⟨S_, .i32⟩
  | 117 => ⟨S512x1x1, .i32⟩
  | 118 => ⟨S512x1x1, .i1⟩
  | 119 => ⟨S_, .i32⟩
  | 120 => ⟨S512x1x1, .i32⟩
  | 121 => ⟨S512x1x1, .i32⟩
  | 122 => ⟨S512x1x1, .i32⟩
  | 123 => ⟨S_, .i32⟩
  | 124 => ⟨S512x5x1, .i32⟩
  | 125 => ⟨S512x5x1, .i1⟩
  | 126 => ⟨S_, .i32⟩
  | 127 => ⟨S512x5x1, .i32⟩
  | _ => ⟨S8x4x256x36x36, .f32⟩

abbrev hbmTy0_4 (i : Nat) : BufTy := match i % 128 with
  | 0 => ⟨S512x5x1, .i32⟩
  | 1 => ⟨S512x5x1, .i32⟩
  | 2 => ⟨S_, .i32⟩
  | 3 => ⟨S512x1x5, .i32⟩
  | 4 => ⟨S512x1x5, .i1⟩
  | 5 => ⟨S_, .i32⟩
  | 6 => ⟨S512x1x5, .i32⟩
  | 7 => ⟨S512x1x5, .i32⟩
  | 8 => ⟨S512x1x5, .i32⟩
  | 9 => ⟨S512x5x5, .i32⟩
  | 10 => ⟨S512x5x5, .i32⟩
  | 11 => ⟨S512x5x5, .i32⟩
  | 12 => ⟨S512x5x5x1, .i32⟩
  | 13 => ⟨S512x5x5x1, .i32⟩
  | 14 => ⟨S512x5x5x1, .i32⟩
  | 15 => ⟨S512x5x5x3, .i32⟩
  | 16 => ⟨S512x5x5x256, .f32⟩
  | 17 => ⟨S512x5x5x256, .f32⟩
  | 18 => ⟨S512x5x5x256, .f32⟩
  | 19 => ⟨S512x5x5x256, .f32⟩
  | 20 => ⟨S512x1x1, .i32⟩
  | 21 => ⟨S512x5x1, .i32⟩
  | 22 => ⟨S512x1x5, .i32⟩
  | 23 => ⟨S_, .i32⟩
  | 24 => ⟨S512x1x1, .i32⟩
  | 25 => ⟨S512x1x1, .i1⟩
  | 26 => ⟨S_, .i32⟩
  | 27 => ⟨S512x1x1, .i32⟩
  | 28 => ⟨S512x1x1, .i32⟩
  | 29 => ⟨S512x1x1, .i32⟩
  | 30 => ⟨S_, .i32⟩
  | 31 => ⟨S512x5x1, .i32⟩
  | 32 => ⟨S512x5x1, .i1⟩
  | 33 => ⟨S_, .i32⟩
  | 34 => ⟨S512x5x1, .i32⟩
  | 35 => ⟨S512x5x1, .i32⟩
  | 36 => ⟨S512x5x1, .i32⟩
  | 37 => ⟨S_, .i32⟩
  | 38 => ⟨S512x1x5, .i32⟩
  | 39 => ⟨S512x1x5, .i1⟩
  | 40 => ⟨S_, .i32⟩
  | 41 => ⟨S512x1x5, .i32⟩
  | 42 => ⟨S512x1x5, .i32⟩
  | 43 => ⟨S512x1x5, .i32⟩
  | 44 => ⟨S512x5x5, .i32⟩
  | 45 => ⟨S512x5x5, .i32⟩
  | 46 => ⟨S512x5x5, .i32⟩
  | 47 => ⟨S512x5x5x1, .i32⟩
  | 48 => ⟨S512x5x5x1, .i32⟩
  | 49 => ⟨S512x5x5x1, .i32⟩
  | 50 => ⟨S512x5x5x3, .i32⟩
  | 51 => ⟨S512x5x5x256, .f32⟩
  | 52 => ⟨S512x5x5x256, .f32⟩
  | 53 => ⟨S512x5x5x256, .f32⟩
  | 54 => ⟨S512x5x5x256, .f32⟩
  | 55 => ⟨S512x1x1, .i32⟩
  | 56 => ⟨S512x5x1, .i32⟩
  | 57 => ⟨S512x1x5, .i32⟩
  | 58 => ⟨S_, .i32⟩
  | 59 => ⟨S512x1x1, .i32⟩
  | 60 => ⟨S512x1x1, .i1⟩
  | 61 => ⟨S_, .i32⟩
  | 62 => ⟨S512x1x1, .i32⟩
  | 63 => ⟨S512x1x1, .i32⟩
  | 64 => ⟨S512x1x1, .i32⟩
  | 65 => ⟨S_, .i32⟩
  | 66 => ⟨S512x5x1, .i32⟩
  | 67 => ⟨S512x5x1, .i1⟩
  | 68 => ⟨S_, .i32⟩
  | 69 => ⟨S512x5x1, .i32⟩
  | 70 => ⟨S512x5x1, .i32⟩
  | 71 => ⟨S512x5x1, .i32⟩
  | 72 => ⟨S_, .i32⟩
  | 73 => ⟨S512x1x5, .i32⟩
  | 74 => ⟨S512x1x5, .i1⟩
  | 75 => ⟨S_, .i32⟩
  | 76 => ⟨S512x1x5, .i32⟩
  | 77 => ⟨S512x1x5, .i32⟩
  | 78 => ⟨S512x1x5, .i32⟩
  | 79 => ⟨S512x5x5, .i32⟩
  | 80 => ⟨S512x5x5, .i32⟩
  | 81 => ⟨S512x5x5, .i32⟩
  | 82 => ⟨S512x5x5x1, .i32⟩
  | 83 => ⟨S512x5x5x1, .i32⟩
  | 84 => ⟨S512x5x5x1, .i32⟩
  | 85 => ⟨S512x5x5x3, .i32⟩
  | 86 => ⟨S512x5x5x256, .f32⟩
  | 87 => ⟨S512x1x1, .i32⟩
  | 88 => ⟨S512x5x1, .i32⟩
  | 89 => ⟨S512x1x5, .i32⟩
  | 90 => ⟨S_, .i32⟩
  | 91 => ⟨S512x1x1, .i32⟩
  | 92 => ⟨S512x1x1, .i1⟩
  | 93 => ⟨S_, .i32⟩
  | 94 => ⟨S512x1x1, .i32⟩
  | 95 => ⟨S512x1x1, .i32⟩
  | 96 => ⟨S512x1x1, .i32⟩
  | 97 => ⟨S_, .i32⟩
  | 98 => ⟨S512x5x1, .i32⟩
  | 99 => ⟨S512x5x1, .i1⟩
  | 100 => ⟨S_, .i32⟩
  | 101 => ⟨S512x5x1, .i32⟩
  | 102 => ⟨S512x5x1, .i32⟩
  | 103 => ⟨S512x5x1, .i32⟩
  | 104 => ⟨S_, .i32⟩
  | 105 => ⟨S512x1x5, .i32⟩
  | 106 => ⟨S512x1x5, .i1⟩
  | 107 => ⟨S_, .i32⟩
  | 108 => ⟨S512x1x5, .i32⟩
  | 109 => ⟨S512x1x5, .i32⟩
  | 110 => ⟨S512x1x5, .i32⟩
  | 111 => ⟨S512x5x5, .i32⟩
  | 112 => ⟨S512x5x5, .i32⟩
  | 113 => ⟨S512x5x5, .i32⟩
  | 114 => ⟨S512x5x5x1, .i32⟩
  | 115 => ⟨S512x5x5x1, .i32⟩
  | 116 => ⟨S512x5x5x1, .i32⟩
  | 117 => ⟨S512x5x5x3, .i32⟩
  | 118 => ⟨S512x5x5x256, .f32⟩
  | 119 => ⟨S512x5x5x256, .f32⟩
  | 120 => ⟨S512x5x5x256, .f32⟩
  | 121 => ⟨S512x5x5x256, .f32⟩
  | 122 => ⟨S512x1x1, .i32⟩
  | 123 => ⟨S512x5x1, .i32⟩
  | 124 => ⟨S512x1x5, .i32⟩
  | 125 => ⟨S_, .i32⟩
  | 126 => ⟨S512x1x1, .i32⟩
  | 127 => ⟨S512x1x1, .i1⟩
  | _ => ⟨S8x4x256x36x36, .f32⟩

abbrev hbmTy0_5 (i : Nat) : BufTy := match i % 128 with
  | 0 => ⟨S_, .i32⟩
  | 1 => ⟨S512x1x1, .i32⟩
  | 2 => ⟨S512x1x1, .i32⟩
  | 3 => ⟨S512x1x1, .i32⟩
  | 4 => ⟨S_, .i32⟩
  | 5 => ⟨S512x5x1, .i32⟩
  | 6 => ⟨S512x5x1, .i1⟩
  | 7 => ⟨S_, .i32⟩
  | 8 => ⟨S512x5x1, .i32⟩
  | 9 => ⟨S512x5x1, .i32⟩
  | 10 => ⟨S512x5x1, .i32⟩
  | 11 => ⟨S_, .i32⟩
  | 12 => ⟨S512x1x5, .i32⟩
  | 13 => ⟨S512x1x5, .i1⟩
  | 14 => ⟨S_, .i32⟩
  | 15 => ⟨S512x1x5, .i32⟩
  | 16 => ⟨S512x1x5, .i32⟩
  | 17 => ⟨S512x1x5, .i32⟩
  | 18 => ⟨S512x5x5, .i32⟩
  | 19 => ⟨S512x5x5, .i32⟩
  | 20 => ⟨S512x5x5, .i32⟩
  | 21 => ⟨S512x5x5x1, .i32⟩
  | 22 => ⟨S512x5x5x1, .i32⟩
  | 23 => ⟨S512x5x5x1, .i32⟩
  | 24 => ⟨S512x5x5x3, .i32⟩
  | 25 => ⟨S512x5x5x256, .f32⟩
  | 26 => ⟨S512x5x5x256, .f32⟩
  | 27 => ⟨S512x5x5x256, .f32⟩
  | 28 => ⟨S512x5x5x256, .f32⟩
  | 29 => ⟨S512x5x5x256, .f32⟩
  | 30 => ⟨S512x5x5x256, .f32⟩
  | 31 => ⟨S512x5x5x256, .f32⟩
  | 32 => ⟨S512x1x1, .i32⟩
  | 33 => ⟨S512x5x1, .i32⟩
  | 34 => ⟨S512x1x5, .i32⟩
  | 35 => ⟨S_, .i32⟩
  | 36 => ⟨S512x1x1, .i32⟩
  | 37 => ⟨S512x1x1, .i1⟩
  | 38 => ⟨S_, .i32⟩
  | 39 => ⟨S512x1x1, .i32⟩
  | 40 => ⟨S512x1x1, .i32⟩
  | 41 => ⟨S512x1x1, .i32⟩
  | 42 => ⟨S_, .i32⟩
  | 43 => ⟨S512x5x1, .i32⟩
  | 44 => ⟨S512x5x1, .i1⟩
  | 45 => ⟨S_, .i32⟩
  | 46 => ⟨S512x5x1, .i32⟩
  | 47 => ⟨S512x5x1, .i32⟩
  | 48 => ⟨S512x5x1, .i32⟩
  | 49 => ⟨S_, .i32⟩
  | 50 => ⟨S512x1x5, .i32⟩
  | 51 => ⟨S512x1x5, .i1⟩
  | 52 => ⟨S_, .i32⟩
  | 53 => ⟨S512x1x5, .i32⟩
  | 54 => ⟨S512x1x5, .i32⟩
  | 55 => ⟨S512x1x5, .i32⟩
  | 56 => ⟨S512x5x5, .i32⟩
  | 57 => ⟨S512x5x5, .i32⟩
  | 58 => ⟨S512x5x5, .i32⟩
  | 59 => ⟨S512x5x5x1, .i32⟩
  | 60 => ⟨S512x5x5x1, .i32⟩
  | 61 => ⟨S512x5x5x1, .i32⟩
  | 62 => ⟨S512x5x5x3, .i32⟩
  | 63 => ⟨S512x5x5x256, .f32⟩
  | 64 => ⟨S512x1x1, .i32⟩
  | 65 => ⟨S512x5x1, .i32⟩
  | 66 => ⟨S512x1x5, .i32⟩
  | 67 => ⟨S_, .i32⟩
  | 68 => ⟨S512x1x1, .i32⟩
  | 69 => ⟨S512x1x1, .i1⟩
  | 70 => ⟨S_, .i32⟩
  | 71 => ⟨S512x1x1, .i32⟩
  | 72 => ⟨S512x1x1, .i32⟩
  | 73 => ⟨S512x1x1, .i32⟩
  | 74 => ⟨S_, .i32⟩
  | 75 => ⟨S512x5x1, .i32⟩
  | 76 => ⟨S512x5x1, .i1⟩
  | 77 => ⟨S_, .i32⟩
  | 78 => ⟨S512x5x1, .i32⟩
  | 79 => ⟨S512x5x1, .i32⟩
  | 80 => ⟨S512x5x1, .i32⟩
  | 81 => ⟨S_, .i32⟩
  | 82 => ⟨S512x1x5, .i32⟩
  | 83 => ⟨S512x1x5, .i1⟩
  | 84 => ⟨S_, .i32⟩
  | 85 => ⟨S512x1x5, .i32⟩
  | 86 => ⟨S512x1x5, .i32⟩
  | 87 => ⟨S512x1x5, .i32⟩
  | 88 => ⟨S512x5x5, .i32⟩
  | 89 => ⟨S512x5x5, .i32⟩
  | 90 => ⟨S512x5x5, .i32⟩
  | 91 => ⟨S512x5x5x1, .i32⟩
  | 92 => ⟨S512x5x5x1, .i32⟩
  | 93 => ⟨S512x5x5x1, .i32⟩
  | 94 => ⟨S512x5x5x3, .i32⟩
  | 95 => ⟨S512x5x5x256, .f32⟩
  | 96 => ⟨S512x5x5x256, .f32⟩
  | 97 => ⟨S512x5x5x256, .f32⟩
  | 98 => ⟨S512x5x5x256, .f32⟩
  | 99 => ⟨S512x1x1, .i32⟩
  | 100 => ⟨S512x5x1, .i32⟩
  | 101 => ⟨S512x1x5, .i32⟩
  | 102 => ⟨S_, .i32⟩
  | 103 => ⟨S512x1x1, .i32⟩
  | 104 => ⟨S512x1x1, .i1⟩
  | 105 => ⟨S_, .i32⟩
  | 106 => ⟨S512x1x1, .i32⟩
  | 107 => ⟨S512x1x1, .i32⟩
  | 108 => ⟨S512x1x1, .i32⟩
  | 109 => ⟨S_, .i32⟩
  | 110 => ⟨S512x5x1, .i32⟩
  | 111 => ⟨S512x5x1, .i1⟩
  | 112 => ⟨S_, .i32⟩
  | 113 => ⟨S512x5x1, .i32⟩
  | 114 => ⟨S512x5x1, .i32⟩
  | 115 => ⟨S512x5x1, .i32⟩
  | 116 => ⟨S_, .i32⟩
  | 117 => ⟨S512x1x5, .i32⟩
  | 118 => ⟨S512x1x5, .i1⟩
  | 119 => ⟨S_, .i32⟩
  | 120 => ⟨S512x1x5, .i32⟩
  | 121 => ⟨S512x1x5, .i32⟩
  | 122 => ⟨S512x1x5, .i32⟩
  | 123 => ⟨S512x5x5, .i32⟩
  | 124 => ⟨S512x5x5, .i32⟩
  | 125 => ⟨S512x5x5, .i32⟩
  | 126 => ⟨S512x5x5x1, .i32⟩
  | 127 => ⟨S512x5x5x1, .i32⟩
  | _ => ⟨S8x4x256x36x36, .f32⟩

abbrev hbmTy0_6 (i : Nat) : BufTy := match i % 128 with
  | 0 => ⟨S512x5x5x1, .i32⟩
  | 1 => ⟨S512x5x5x3, .i32⟩
  | 2 => ⟨S512x5x5x256, .f32⟩
  | 3 => ⟨S512x5x5x256, .f32⟩
  | 4 => ⟨S512x5x5x256, .f32⟩
  | 5 => ⟨S512x5x5x256, .f32⟩
  | 6 => ⟨S512x5x5x256, .f32⟩
  | 7 => ⟨S512x5x5x256, .f32⟩
  | 8 => ⟨S512x5x5x256, .f32⟩
  | 9 => ⟨S512x4x4x256, .f32⟩
  | 10 => ⟨S512x4x4x256, .f32⟩
  | 11 => ⟨S512x4x4x256, .f32⟩
  | 12 => ⟨S512x4x4x256, .f32⟩
  | 13 => ⟨S512x4x4x256, .f32⟩
  | 14 => ⟨S512x4x4x256, .f32⟩
  | 15 => ⟨S512x4x4x256, .f32⟩
  | 16 => ⟨S512, .f32⟩
  | 17 => ⟨S512x1x1x1, .f32⟩
  | 18 => ⟨S_, .f32⟩
  | 19 => ⟨S512x1x1x1, .f32⟩
  | 20 => ⟨S512x1x1x1, .i1⟩
  | 21 => ⟨S_, .f32⟩
  | 22 => ⟨S512x1x1x1, .f32⟩
  | 23 => ⟨S512x1x1x1, .f32⟩
  | 24 => ⟨S512x4x4x256, .f32⟩
  | 25 => ⟨S512x4x4x256, .f32⟩
  | 26 => ⟨S_, .f32⟩
  | 27 => ⟨S_, .f32⟩
  | 28 => ⟨S512x4x4x256, .i1⟩
  | 29 => ⟨S512x4x4x256, .f32⟩
  | 30 => ⟨S512x4x4x256, .f32⟩
  | 31 => ⟨S512x256x4x4, .f32⟩
  | 32 => ⟨S512x4096, .f32⟩
  | 33 => ⟨S4096x256, .f32⟩
  | 34 => ⟨S512x256, .f32⟩
  | 35 => ⟨S1x256, .f32⟩
  | 36 => ⟨S512x256, .f32⟩
  | 37 => ⟨S512x256, .f32⟩
  | 38 => ⟨S_, .f32⟩
  | 39 => ⟨S256, .f32⟩
  | 40 => ⟨S_, .f32⟩
  | 41 => ⟨S256, .f32⟩
  | 42 => ⟨S256, .f32⟩
  | 43 => ⟨S1x256, .f32⟩
  | 44 => ⟨S512x256, .f32⟩
  | 45 => ⟨S512x256, .f32⟩
  | 46 => ⟨S512x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S512x256, .f32⟩
  | 54 => ⟨S512x256, .f32⟩
  | 55 => ⟨S_, .f32⟩
  | 56 => ⟨S256, .f32⟩
  | 57 => ⟨S256, .f32⟩
  | 58 => ⟨S256, .f32⟩
  | 59 => ⟨S1x256, .f32⟩
  | 60 => ⟨S512x256, .f32⟩
  | 61 => ⟨S512x256, .f32⟩
  | 62 => ⟨S1x256, .f32⟩
  | 63 => ⟨S512x256, .f32⟩
  | 64 => ⟨S512x256, .f32⟩
  | 65 => ⟨S1x256, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S256x1, .f32⟩
  | 72 => ⟨S512x1, .f32⟩
  | 73 => ⟨S1x1, .f32⟩
  | 74 => ⟨S512x1, .f32⟩
  | 75 => ⟨S512x1, .f32⟩
  | 76 => ⟨S8x4x16, .f32⟩
  | _ => ⟨S8x4x256x36x36, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x4x256x36x36, .f32⟩

abbrev bufTy : (tb : Table) → Fin (tcTables nBuf tb) → BufTy
  | .hbm, ⟨i, _⟩ => hbmTy i
  | _, _ => ⟨S8x4x256x36x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_0 : Ref sig .tc := ⟨.hbm, 83, rfl⟩
abbrev main_v60 : Ref sig .tc := ⟨.hbm, 84, rfl⟩
abbrev main_v61 : Ref sig .tc := ⟨.hbm, 85, rfl⟩
abbrev main_cst_1 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_2 : Ref sig .tc := ⟨.hbm, 92, rfl⟩
abbrev main_v67 : Ref sig .tc := ⟨.hbm, 93, rfl⟩
abbrev main_v68 : Ref sig .tc := ⟨.hbm, 94, rfl⟩
abbrev main_cst_3 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_4 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_c_5 : Ref sig .tc := ⟨.hbm, 115, rfl⟩
abbrev main_call2_v0 : Ref sig .tc := ⟨.hbm, 116, rfl⟩
abbrev main_v85 : Ref sig .tc := ⟨.hbm, 117, rfl⟩
abbrev main_cst_6 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_7 : Ref sig .tc := ⟨.hbm, 177, rfl⟩
abbrev main_v144 : Ref sig .tc := ⟨.hbm, 178, rfl⟩
abbrev main_v145 : Ref sig .tc := ⟨.hbm, 179, rfl⟩
abbrev main_cst_8 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_9 : Ref sig .tc := ⟨.hbm, 186, rfl⟩
abbrev main_v151 : Ref sig .tc := ⟨.hbm, 187, rfl⟩
abbrev main_v152 : Ref sig .tc := ⟨.hbm, 188, rfl⟩
abbrev main_cst_10 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_11 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_call3_cst : Ref sig .tc := ⟨.hbm, 206, rfl⟩
abbrev main_call3_v0 : Ref sig .tc := ⟨.hbm, 207, rfl⟩
abbrev main_v168 : Ref sig .tc := ⟨.hbm, 208, rfl⟩
abbrev main_c_12 : Ref sig .tc := ⟨.hbm, 209, rfl⟩
abbrev main_call4_v0 : Ref sig .tc := ⟨.hbm, 210, rfl⟩
abbrev main_v169 : Ref sig .tc := ⟨.hbm, 211, rfl⟩
abbrev main_cst_13 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_cst_14 : Ref sig .tc := ⟨.hbm, 271, rfl⟩
abbrev main_v228 : Ref sig .tc := ⟨.hbm, 272, rfl⟩
abbrev main_v229 : Ref sig .tc := ⟨.hbm, 273, rfl⟩
abbrev main_cst_15 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_cst_16 : Ref sig .tc := ⟨.hbm, 280, rfl⟩
abbrev main_v235 : Ref sig .tc := ⟨.hbm, 281, rfl⟩
abbrev main_v236 : Ref sig .tc := ⟨.hbm, 282, rfl⟩
abbrev main_cst_17 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_cst_18 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_call5_cst : Ref sig .tc := ⟨.hbm, 300, rfl⟩
abbrev main_call5_v0 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_cst_19 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_cst_20 : Ref sig .tc := ⟨.hbm, 321, rfl⟩
abbrev main_v270 : Ref sig .tc := ⟨.hbm, 322, rfl⟩
abbrev main_call6_call0_cst : Ref sig .tc := ⟨.hbm, 323, rfl⟩
abbrev main_call6_call0_v0 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_cst_21 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_cst_22 : Ref sig .tc := ⟨.hbm, 335, rfl⟩
abbrev main_v280 : Ref sig .tc := ⟨.hbm, 336, rfl⟩
abbrev main_call7_call0_cst : Ref sig .tc := ⟨.hbm, 337, rfl⟩
abbrev main_call7_call0_v0 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_cst_23 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_cst_24 : Ref sig .tc := ⟨.hbm, 350, rfl⟩
abbrev main_v291 : Ref sig .tc := ⟨.hbm, 351, rfl⟩
abbrev main_call8_call0_cst : Ref sig .tc := ⟨.hbm, 352, rfl⟩
abbrev main_call8_call0_v0 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_cst_25 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_cst_26 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_cst_27 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_cst_28 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_cst_29 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_cst_30 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_cst_31 : Ref sig .tc := ⟨.hbm, 397, rfl⟩
abbrev main_c_32 : Ref sig .tc := ⟨.hbm, 398, rfl⟩
abbrev main_call9_v0 : Ref sig .tc := ⟨.hbm, 399, rfl⟩
abbrev main_call9_v1 : Ref sig .tc := ⟨.hbm, 400, rfl⟩
abbrev main_call9_v2 : Ref sig .tc := ⟨.hbm, 401, rfl⟩
abbrev main_call9_v3 : Ref sig .tc := ⟨.hbm, 402, rfl⟩
abbrev main_call9_v4 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_cst_33 : Ref sig .tc := ⟨.hbm, 413, rfl⟩
abbrev main_c_34 : Ref sig .tc := ⟨.hbm, 414, rfl⟩
abbrev main_call10_v0 : Ref sig .tc := ⟨.hbm, 415, rfl⟩
abbrev main_call10_v1 : Ref sig .tc := ⟨.hbm, 416, rfl⟩
abbrev main_call10_v2 : Ref sig .tc := ⟨.hbm, 417, rfl⟩
abbrev main_call10_v3 : Ref sig .tc := ⟨.hbm, 418, rfl⟩
abbrev main_call10_v4 : Ref sig .tc := ⟨.hbm, 419, rfl⟩
abbrev main_v338 : Ref sig .tc := ⟨.hbm, 420, rfl⟩
abbrev main_v339 : Ref sig .tc := ⟨.hbm, 421, rfl⟩
abbrev main_c_35 : Ref sig .tc := ⟨.hbm, 422, rfl⟩
abbrev main_c_36 : Ref sig .tc := ⟨.hbm, 423, rfl⟩
abbrev main_call11_v0 : Ref sig .tc := ⟨.hbm, 424, rfl⟩
abbrev main_call11_v1 : Ref sig .tc := ⟨.hbm, 425, rfl⟩
abbrev main_call11_v2 : Ref sig .tc := ⟨.hbm, 426, rfl⟩
abbrev main_call11_v3 : Ref sig .tc := ⟨.hbm, 427, rfl⟩
abbrev main_call11_v4 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_c_37 : Ref sig .tc := ⟨.hbm, 432, rfl⟩
abbrev main_c_38 : Ref sig .tc := ⟨.hbm, 433, rfl⟩
abbrev main_call12_v0 : Ref sig .tc := ⟨.hbm, 434, rfl⟩
abbrev main_call12_v1 : Ref sig .tc := ⟨.hbm, 435, rfl⟩
abbrev main_call12_v2 : Ref sig .tc := ⟨.hbm, 436, rfl⟩
abbrev main_call12_v3 : Ref sig .tc := ⟨.hbm, 437, rfl⟩
abbrev main_call12_v4 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_v348 : Ref sig .tc := ⟨.hbm, 444, rfl⟩
abbrev main_cst_39 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_cst_40 : Ref sig .tc := ⟨.hbm, 450, rfl⟩
abbrev main_v353 : Ref sig .tc := ⟨.hbm, 451, rfl⟩
abbrev main_v354 : Ref sig .tc := ⟨.hbm, 452, rfl⟩
abbrev main_v355 : Ref sig .tc := ⟨.hbm, 453, rfl⟩
abbrev main_v356 : Ref sig .tc := ⟨.hbm, 454, rfl⟩
abbrev main_v357 : Ref sig .tc := ⟨.hbm, 455, rfl⟩
abbrev main_v358 : Ref sig .tc := ⟨.hbm, 456, rfl⟩
abbrev main_v359 : Ref sig .tc := ⟨.hbm, 457, rfl⟩
abbrev main_v360 : Ref sig .tc := ⟨.hbm, 458, rfl⟩
abbrev main_c_41 : Ref sig .tc := ⟨.hbm, 459, rfl⟩
abbrev main_v361 : Ref sig .tc := ⟨.hbm, 460, rfl⟩
abbrev main_v362 : Ref sig .tc := ⟨.hbm, 461, rfl⟩
abbrev main_c_42 : Ref sig .tc := ⟨.hbm, 462, rfl⟩
abbrev main_v363 : Ref sig .tc := ⟨.hbm, 463, rfl⟩
abbrev main_v364 : Ref sig .tc := ⟨.hbm, 464, rfl⟩
abbrev main_v365 : Ref sig .tc := ⟨.hbm, 465, rfl⟩
abbrev main_v366 : Ref sig .tc := ⟨.hbm, 466, rfl⟩
abbrev main_v367 : Ref sig .tc := ⟨.hbm, 467, rfl⟩
abbrev main_c_43 : Ref sig .tc := ⟨.hbm, 468, rfl⟩
abbrev main_v368 : Ref sig .tc := ⟨.hbm, 469, rfl⟩
abbrev main_v369 : Ref sig .tc := ⟨.hbm, 470, rfl⟩
abbrev main_c_44 : Ref sig .tc := ⟨.hbm, 471, rfl⟩
abbrev main_v370 : Ref sig .tc := ⟨.hbm, 472, rfl⟩
abbrev main_v371 : Ref sig .tc := ⟨.hbm, 473, rfl⟩
abbrev main_v372 : Ref sig .tc := ⟨.hbm, 474, rfl⟩
abbrev main_c_45 : Ref sig .tc := ⟨.hbm, 475, rfl⟩
abbrev main_v373 : Ref sig .tc := ⟨.hbm, 476, rfl⟩
abbrev main_v374 : Ref sig .tc := ⟨.hbm, 477, rfl⟩
abbrev main_c_46 : Ref sig .tc := ⟨.hbm, 478, rfl⟩
abbrev main_v375 : Ref sig .tc := ⟨.hbm, 479, rfl⟩
abbrev main_v376 : Ref sig .tc := ⟨.hbm, 480, rfl⟩
abbrev main_v377 : Ref sig .tc := ⟨.hbm, 481, rfl⟩
abbrev main_c_47 : Ref sig .tc := ⟨.hbm, 482, rfl⟩
abbrev main_v378 : Ref sig .tc := ⟨.hbm, 483, rfl⟩
abbrev main_v379 : Ref sig .tc := ⟨.hbm, 484, rfl⟩
abbrev main_c_48 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_v386 : Ref sig .tc := ⟨.hbm, 492, rfl⟩
abbrev main_v387 : Ref sig .tc := ⟨.hbm, 493, rfl⟩
abbrev main_v388 : Ref sig .tc := ⟨.hbm, 494, rfl⟩
abbrev main_v389 : Ref sig .tc := ⟨.hbm, 495, rfl⟩
abbrev main_v390 : Ref sig .tc := ⟨.hbm, 496, rfl⟩
abbrev main_v391 : Ref sig .tc := ⟨.hbm, 497, rfl⟩
abbrev main_v392 : Ref sig .tc := ⟨.hbm, 498, rfl⟩
abbrev main_v393 : Ref sig .tc := ⟨.hbm, 499, rfl⟩
abbrev main_c_49 : Ref sig .tc := ⟨.hbm, 500, rfl⟩
abbrev main_v394 : Ref sig .tc := ⟨.hbm, 501, rfl⟩
abbrev main_v395 : Ref sig .tc := ⟨.hbm, 502, rfl⟩
abbrev main_c_50 : Ref sig .tc := ⟨.hbm, 503, rfl⟩
abbrev main_v396 : Ref sig .tc := ⟨.hbm, 504, rfl⟩
abbrev main_v397 : Ref sig .tc := ⟨.hbm, 505, rfl⟩
abbrev main_v398 : Ref sig .tc := ⟨.hbm, 506, rfl⟩
abbrev main_c_51 : Ref sig .tc := ⟨.hbm, 507, rfl⟩
abbrev main_v399 : Ref sig .tc := ⟨.hbm, 508, rfl⟩
abbrev main_v400 : Ref sig .tc := ⟨.hbm, 509, rfl⟩
abbrev main_c_52 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_c_53 : Ref sig .tc := ⟨.hbm, 514, rfl⟩
abbrev main_v404 : Ref sig .tc := ⟨.hbm, 515, rfl⟩
abbrev main_v405 : Ref sig .tc := ⟨.hbm, 516, rfl⟩
abbrev main_c_54 : Ref sig .tc := ⟨.hbm, 517, rfl⟩
abbrev main_v406 : Ref sig .tc := ⟨.hbm, 518, rfl⟩
abbrev main_v407 : Ref sig .tc := ⟨.hbm, 519, rfl⟩
abbrev main_v408 : Ref sig .tc := ⟨.hbm, 520, rfl⟩
abbrev main_v409 : Ref sig .tc := ⟨.hbm, 521, rfl⟩
abbrev main_v410 : Ref sig .tc := ⟨.hbm, 522, rfl⟩
abbrev main_v411 : Ref sig .tc := ⟨.hbm, 523, rfl⟩
abbrev main_v412 : Ref sig .tc := ⟨.hbm, 524, rfl⟩
abbrev main_v413 : Ref sig .tc := ⟨.hbm, 525, rfl⟩
abbrev main_v414 : Ref sig .tc := ⟨.hbm, 526, rfl⟩
abbrev main_v415 : Ref sig .tc := ⟨.hbm, 527, rfl⟩
abbrev main_v416 : Ref sig .tc := ⟨.hbm, 528, rfl⟩
abbrev main_v417 : Ref sig .tc := ⟨.hbm, 529, rfl⟩
abbrev main_v418 : Ref sig .tc := ⟨.hbm, 530, rfl⟩
abbrev main_v419 : Ref sig .tc := ⟨.hbm, 531, rfl⟩
abbrev main_v420 : Ref sig .tc := ⟨.hbm, 532, rfl⟩
abbrev main_v421 : Ref sig .tc := ⟨.hbm, 533, rfl⟩
abbrev main_v422 : Ref sig .tc := ⟨.hbm, 534, rfl⟩
abbrev main_c_55 : Ref sig .tc := ⟨.hbm, 535, rfl⟩
abbrev main_v423 : Ref sig .tc := ⟨.hbm, 536, rfl⟩
abbrev main_v424 : Ref sig .tc := ⟨.hbm, 537, rfl⟩
abbrev main_c_56 : Ref sig .tc := ⟨.hbm, 538, rfl⟩
abbrev main_v425 : Ref sig .tc := ⟨.hbm, 539, rfl⟩
abbrev main_v426 : Ref sig .tc := ⟨.hbm, 540, rfl⟩
abbrev main_v427 : Ref sig .tc := ⟨.hbm, 541, rfl⟩
abbrev main_c_57 : Ref sig .tc := ⟨.hbm, 542, rfl⟩
abbrev main_v428 : Ref sig .tc := ⟨.hbm, 543, rfl⟩
abbrev main_v429 : Ref sig .tc := ⟨.hbm, 544, rfl⟩
abbrev main_c_58 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_c_59 : Ref sig .tc := ⟨.hbm, 549, rfl⟩
abbrev main_v433 : Ref sig .tc := ⟨.hbm, 550, rfl⟩
abbrev main_v434 : Ref sig .tc := ⟨.hbm, 551, rfl⟩
abbrev main_c_60 : Ref sig .tc := ⟨.hbm, 552, rfl⟩
abbrev main_v435 : Ref sig .tc := ⟨.hbm, 553, rfl⟩
abbrev main_v436 : Ref sig .tc := ⟨.hbm, 554, rfl⟩
abbrev main_v437 : Ref sig .tc := ⟨.hbm, 555, rfl⟩
abbrev main_v438 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_v442 : Ref sig .tc := ⟨.hbm, 560, rfl⟩
abbrev main_v443 : Ref sig .tc := ⟨.hbm, 561, rfl⟩
abbrev main_v444 : Ref sig .tc := ⟨.hbm, 562, rfl⟩
abbrev main_v445 : Ref sig .tc := ⟨.hbm, 563, rfl⟩
abbrev main_v446 : Ref sig .tc := ⟨.hbm, 564, rfl⟩
abbrev main_v447 : Ref sig .tc := ⟨.hbm, 565, rfl⟩
abbrev main_v448 : Ref sig .tc := ⟨.hbm, 566, rfl⟩
abbrev main_v449 : Ref sig .tc := ⟨.hbm, 567, rfl⟩
abbrev main_v450 : Ref sig .tc := ⟨.hbm, 568, rfl⟩
abbrev main_v451 : Ref sig .tc := ⟨.hbm, 569, rfl⟩
abbrev main_c_61 : Ref sig .tc := ⟨.hbm, 570, rfl⟩
abbrev main_v452 : Ref sig .tc := ⟨.hbm, 571, rfl⟩
abbrev main_v453 : Ref sig .tc := ⟨.hbm, 572, rfl⟩
abbrev main_c_62 : Ref sig .tc := ⟨.hbm, 573, rfl⟩
abbrev main_v454 : Ref sig .tc := ⟨.hbm, 574, rfl⟩
abbrev main_v455 : Ref sig .tc := ⟨.hbm, 575, rfl⟩
abbrev main_v456 : Ref sig .tc := ⟨.hbm, 576, rfl⟩
abbrev main_c_63 : Ref sig .tc := ⟨.hbm, 577, rfl⟩
abbrev main_v457 : Ref sig .tc := ⟨.hbm, 578, rfl⟩
abbrev main_v458 : Ref sig .tc := ⟨.hbm, 579, rfl⟩
abbrev main_c_64 : Ref sig .tc := ⟨.hbm, 580, rfl⟩
abbrev main_v459 : Ref sig .tc := ⟨.hbm, 581, rfl⟩
abbrev main_v460 : Ref sig .tc := ⟨.hbm, 582, rfl⟩
abbrev main_v461 : Ref sig .tc := ⟨.hbm, 583, rfl⟩
abbrev main_c_65 : Ref sig .tc := ⟨.hbm, 584, rfl⟩
abbrev main_v462 : Ref sig .tc := ⟨.hbm, 585, rfl⟩
abbrev main_v463 : Ref sig .tc := ⟨.hbm, 586, rfl⟩
abbrev main_c_66 : Ref sig .tc := ⟨.hbm, 587, rfl⟩
abbrev main_v464 : Ref sig .tc := ⟨.hbm, 588, rfl⟩
abbrev main_v465 : Ref sig .tc := ⟨.hbm, 589, rfl⟩
abbrev main_v466 : Ref sig .tc := ⟨.hbm, 590, rfl⟩
abbrev main_v467 : Ref sig .tc := ⟨.hbm, 591, rfl⟩
abbrev main_v468 : Ref sig .tc := ⟨.hbm, 592, rfl⟩
abbrev main_v469 : Ref sig .tc := ⟨.hbm, 593, rfl⟩
abbrev main_v470 : Ref sig .tc := ⟨.hbm, 594, rfl⟩
abbrev main_v471 : Ref sig .tc := ⟨.hbm, 595, rfl⟩
abbrev main_v472 : Ref sig .tc := ⟨.hbm, 596, rfl⟩
abbrev main_v473 : Ref sig .tc := ⟨.hbm, 597, rfl⟩
abbrev main_v474 : Ref sig .tc := ⟨.hbm, 598, rfl⟩
abbrev main_v475 : Ref sig .tc := ⟨.hbm, 599, rfl⟩
abbrev main_v476 : Ref sig .tc := ⟨.hbm, 600, rfl⟩
abbrev main_v477 : Ref sig .tc := ⟨.hbm, 601, rfl⟩
abbrev main_c_67 : Ref sig .tc := ⟨.hbm, 602, rfl⟩
abbrev main_v478 : Ref sig .tc := ⟨.hbm, 603, rfl⟩
abbrev main_v479 : Ref sig .tc := ⟨.hbm, 604, rfl⟩
abbrev main_c_68 : Ref sig .tc := ⟨.hbm, 605, rfl⟩
abbrev main_v480 : Ref sig .tc := ⟨.hbm, 606, rfl⟩
abbrev main_v481 : Ref sig .tc := ⟨.hbm, 607, rfl⟩
abbrev main_v482 : Ref sig .tc := ⟨.hbm, 608, rfl⟩
abbrev main_c_69 : Ref sig .tc := ⟨.hbm, 609, rfl⟩
abbrev main_v483 : Ref sig .tc := ⟨.hbm, 610, rfl⟩
abbrev main_v484 : Ref sig .tc := ⟨.hbm, 611, rfl⟩
abbrev main_c_70 : Ref sig .tc := ⟨.hbm, 612, rfl⟩
abbrev main_v485 : Ref sig .tc := ⟨.hbm, 613, rfl⟩
abbrev main_v486 : Ref sig .tc := ⟨.hbm, 614, rfl⟩
abbrev main_v487 : Ref sig .tc := ⟨.hbm, 615, rfl⟩
abbrev main_c_71 : Ref sig .tc := ⟨.hbm, 616, rfl⟩
abbrev main_v488 : Ref sig .tc := ⟨.hbm, 617, rfl⟩
abbrev main_v489 : Ref sig .tc := ⟨.hbm, 618, rfl⟩
abbrev main_c_72 : Ref sig .tc := ⟨.hbm, 619, rfl⟩
abbrev main_v490 : Ref sig .tc := ⟨.hbm, 620, rfl⟩
abbrev main_v491 : Ref sig .tc := ⟨.hbm, 621, rfl⟩
abbrev main_v492 : Ref sig .tc := ⟨.hbm, 622, rfl⟩
abbrev main_v493 : Ref sig .tc := ⟨.hbm, 623, rfl⟩
abbrev main_v494 : Ref sig .tc := ⟨.hbm, 624, rfl⟩
abbrev main_v495 : Ref sig .tc := ⟨.hbm, 625, rfl⟩
abbrev main_v496 : Ref sig .tc := ⟨.hbm, 626, rfl⟩
abbrev main_v497 : Ref sig .tc := ⟨.hbm, 627, rfl⟩
abbrev main_v498 : Ref sig .tc := ⟨.hbm, 628, rfl⟩
abbrev main_v499 : Ref sig .tc := ⟨.hbm, 629, rfl⟩
abbrev main_v500 : Ref sig .tc := ⟨.hbm, 630, rfl⟩
abbrev main_v501 : Ref sig .tc := ⟨.hbm, 631, rfl⟩
abbrev main_v502 : Ref sig .tc := ⟨.hbm, 632, rfl⟩
abbrev main_v503 : Ref sig .tc := ⟨.hbm, 633, rfl⟩
abbrev main_v504 : Ref sig .tc := ⟨.hbm, 634, rfl⟩
abbrev main_v505 : Ref sig .tc := ⟨.hbm, 635, rfl⟩
abbrev main_v506 : Ref sig .tc := ⟨.hbm, 636, rfl⟩
abbrev main_c_73 : Ref sig .tc := ⟨.hbm, 637, rfl⟩
abbrev main_v507 : Ref sig .tc := ⟨.hbm, 638, rfl⟩
abbrev main_v508 : Ref sig .tc := ⟨.hbm, 639, rfl⟩
abbrev main_c_74 : Ref sig .tc := ⟨.hbm, 640, rfl⟩
abbrev main_v509 : Ref sig .tc := ⟨.hbm, 641, rfl⟩
abbrev main_v510 : Ref sig .tc := ⟨.hbm, 642, rfl⟩
abbrev main_v511 : Ref sig .tc := ⟨.hbm, 643, rfl⟩
abbrev main_c_75 : Ref sig .tc := ⟨.hbm, 644, rfl⟩
abbrev main_v512 : Ref sig .tc := ⟨.hbm, 645, rfl⟩
abbrev main_v513 : Ref sig .tc := ⟨.hbm, 646, rfl⟩
abbrev main_c_76 : Ref sig .tc := ⟨.hbm, 647, rfl⟩
abbrev main_v514 : Ref sig .tc := ⟨.hbm, 648, rfl⟩
abbrev main_v515 : Ref sig .tc := ⟨.hbm, 649, rfl⟩
abbrev main_v516 : Ref sig .tc := ⟨.hbm, 650, rfl⟩
abbrev main_c_77 : Ref sig .tc := ⟨.hbm, 651, rfl⟩
abbrev main_v517 : Ref sig .tc := ⟨.hbm, 652, rfl⟩
abbrev main_v518 : Ref sig .tc := ⟨.hbm, 653, rfl⟩
abbrev main_c_78 : Ref sig .tc := ⟨.hbm, 654, rfl⟩
abbrev main_v519 : Ref sig .tc := ⟨.hbm, 655, rfl⟩
abbrev main_v520 : Ref sig .tc := ⟨.hbm, 656, rfl⟩
abbrev main_v521 : Ref sig .tc := ⟨.hbm, 657, rfl⟩
abbrev main_v522 : Ref sig .tc := ⟨.hbm, 658, rfl⟩
abbrev main_v523 : Ref sig .tc := ⟨.hbm, 659, rfl⟩
abbrev main_v524 : Ref sig .tc := ⟨.hbm, 660, rfl⟩
abbrev main_v525 : Ref sig .tc := ⟨.hbm, 661, rfl⟩
abbrev main_v526 : Ref sig .tc := ⟨.hbm, 662, rfl⟩
abbrev main_v527 : Ref sig .tc := ⟨.hbm, 663, rfl⟩
abbrev main_v528 : Ref sig .tc := ⟨.hbm, 664, rfl⟩
abbrev main_v529 : Ref sig .tc := ⟨.hbm, 665, rfl⟩
abbrev main_v530 : Ref sig .tc := ⟨.hbm, 666, rfl⟩
abbrev main_v531 : Ref sig .tc := ⟨.hbm, 667, rfl⟩
abbrev main_v532 : Ref sig .tc := ⟨.hbm, 668, rfl⟩
abbrev main_v533 : Ref sig .tc := ⟨.hbm, 669, rfl⟩
abbrev main_v534 : Ref sig .tc := ⟨.hbm, 670, rfl⟩
abbrev main_v535 : Ref sig .tc := ⟨.hbm, 671, rfl⟩
abbrev main_v536 : Ref sig .tc := ⟨.hbm, 672, rfl⟩
abbrev main_v537 : Ref sig .tc := ⟨.hbm, 673, rfl⟩
abbrev main_v538 : Ref sig .tc := ⟨.hbm, 674, rfl⟩
abbrev main_c_79 : Ref sig .tc := ⟨.hbm, 675, rfl⟩
abbrev main_v539 : Ref sig .tc := ⟨.hbm, 676, rfl⟩
abbrev main_v540 : Ref sig .tc := ⟨.hbm, 677, rfl⟩
abbrev main_c_80 : Ref sig .tc := ⟨.hbm, 678, rfl⟩
abbrev main_v541 : Ref sig .tc := ⟨.hbm, 679, rfl⟩
abbrev main_v542 : Ref sig .tc := ⟨.hbm, 680, rfl⟩
abbrev main_v543 : Ref sig .tc := ⟨.hbm, 681, rfl⟩
abbrev main_c_81 : Ref sig .tc := ⟨.hbm, 682, rfl⟩
abbrev main_v544 : Ref sig .tc := ⟨.hbm, 683, rfl⟩
abbrev main_v545 : Ref sig .tc := ⟨.hbm, 684, rfl⟩
abbrev main_c_82 : Ref sig .tc := ⟨.hbm, 685, rfl⟩
abbrev main_v546 : Ref sig .tc := ⟨.hbm, 686, rfl⟩
abbrev main_v547 : Ref sig .tc := ⟨.hbm, 687, rfl⟩
abbrev main_v548 : Ref sig .tc := ⟨.hbm, 688, rfl⟩
abbrev main_c_83 : Ref sig .tc := ⟨.hbm, 689, rfl⟩
abbrev main_v549 : Ref sig .tc := ⟨.hbm, 690, rfl⟩
abbrev main_v550 : Ref sig .tc := ⟨.hbm, 691, rfl⟩
abbrev main_c_84 : Ref sig .tc := ⟨.hbm, 692, rfl⟩
abbrev main_v551 : Ref sig .tc := ⟨.hbm, 693, rfl⟩
abbrev main_v552 : Ref sig .tc := ⟨.hbm, 694, rfl⟩
abbrev main_v553 : Ref sig .tc := ⟨.hbm, 695, rfl⟩
abbrev main_v554 : Ref sig .tc := ⟨.hbm, 696, rfl⟩
abbrev main_v555 : Ref sig .tc := ⟨.hbm, 697, rfl⟩
abbrev main_v556 : Ref sig .tc := ⟨.hbm, 698, rfl⟩
abbrev main_v557 : Ref sig .tc := ⟨.hbm, 699, rfl⟩
abbrev main_v558 : Ref sig .tc := ⟨.hbm, 700, rfl⟩
abbrev main_v559 : Ref sig .tc := ⟨.hbm, 701, rfl⟩
abbrev main_v560 : Ref sig .tc := ⟨.hbm, 702, rfl⟩
abbrev main_v561 : Ref sig .tc := ⟨.hbm, 703, rfl⟩
abbrev main_v562 : Ref sig .tc := ⟨.hbm, 704, rfl⟩
abbrev main_v563 : Ref sig .tc := ⟨.hbm, 705, rfl⟩
abbrev main_v564 : Ref sig .tc := ⟨.hbm, 706, rfl⟩
abbrev main_c_85 : Ref sig .tc := ⟨.hbm, 707, rfl⟩
abbrev main_v565 : Ref sig .tc := ⟨.hbm, 708, rfl⟩
abbrev main_v566 : Ref sig .tc := ⟨.hbm, 709, rfl⟩
abbrev main_c_86 : Ref sig .tc := ⟨.hbm, 710, rfl⟩
abbrev main_v567 : Ref sig .tc := ⟨.hbm, 711, rfl⟩
abbrev main_v568 : Ref sig .tc := ⟨.hbm, 712, rfl⟩
abbrev main_v569 : Ref sig .tc := ⟨.hbm, 713, rfl⟩
abbrev main_c_87 : Ref sig .tc := ⟨.hbm, 714, rfl⟩
abbrev main_v570 : Ref sig .tc := ⟨.hbm, 715, rfl⟩
abbrev main_v571 : Ref sig .tc := ⟨.hbm, 716, rfl⟩
abbrev main_c_88 : Ref sig .tc := ⟨.hbm, 717, rfl⟩
abbrev main_v572 : Ref sig .tc := ⟨.hbm, 718, rfl⟩
abbrev main_v573 : Ref sig .tc := ⟨.hbm, 719, rfl⟩
abbrev main_v574 : Ref sig .tc := ⟨.hbm, 720, rfl⟩
abbrev main_c_89 : Ref sig .tc := ⟨.hbm, 721, rfl⟩
abbrev main_v575 : Ref sig .tc := ⟨.hbm, 722, rfl⟩
abbrev main_v576 : Ref sig .tc := ⟨.hbm, 723, rfl⟩
abbrev main_c_90 : Ref sig .tc := ⟨.hbm, 724, rfl⟩
abbrev main_v577 : Ref sig .tc := ⟨.hbm, 725, rfl⟩
abbrev main_v578 : Ref sig .tc := ⟨.hbm, 726, rfl⟩
abbrev main_v579 : Ref sig .tc := ⟨.hbm, 727, rfl⟩
abbrev main_v580 : Ref sig .tc := ⟨.hbm, 728, rfl⟩
abbrev main_v581 : Ref sig .tc := ⟨.hbm, 729, rfl⟩
abbrev main_v582 : Ref sig .tc := ⟨.hbm, 730, rfl⟩
abbrev main_v583 : Ref sig .tc := ⟨.hbm, 731, rfl⟩
abbrev main_v584 : Ref sig .tc := ⟨.hbm, 732, rfl⟩
abbrev main_v585 : Ref sig .tc := ⟨.hbm, 733, rfl⟩
abbrev main_v586 : Ref sig .tc := ⟨.hbm, 734, rfl⟩
abbrev main_v587 : Ref sig .tc := ⟨.hbm, 735, rfl⟩
abbrev main_v588 : Ref sig .tc := ⟨.hbm, 736, rfl⟩
abbrev main_v589 : Ref sig .tc := ⟨.hbm, 737, rfl⟩
abbrev main_v590 : Ref sig .tc := ⟨.hbm, 738, rfl⟩
abbrev main_v591 : Ref sig .tc := ⟨.hbm, 739, rfl⟩
abbrev main_v592 : Ref sig .tc := ⟨.hbm, 740, rfl⟩
abbrev main_v593 : Ref sig .tc := ⟨.hbm, 741, rfl⟩
abbrev main_c_91 : Ref sig .tc := ⟨.hbm, 742, rfl⟩
abbrev main_v594 : Ref sig .tc := ⟨.hbm, 743, rfl⟩
abbrev main_v595 : Ref sig .tc := ⟨.hbm, 744, rfl⟩
abbrev main_c_92 : Ref sig .tc := ⟨.hbm, 745, rfl⟩
abbrev main_v596 : Ref sig .tc := ⟨.hbm, 746, rfl⟩
abbrev main_v597 : Ref sig .tc := ⟨.hbm, 747, rfl⟩
abbrev main_v598 : Ref sig .tc := ⟨.hbm, 748, rfl⟩
abbrev main_c_93 : Ref sig .tc := ⟨.hbm, 749, rfl⟩
abbrev main_v599 : Ref sig .tc := ⟨.hbm, 750, rfl⟩
abbrev main_v600 : Ref sig .tc := ⟨.hbm, 751, rfl⟩
abbrev main_c_94 : Ref sig .tc := ⟨.hbm, 752, rfl⟩
abbrev main_v601 : Ref sig .tc := ⟨.hbm, 753, rfl⟩
abbrev main_v602 : Ref sig .tc := ⟨.hbm, 754, rfl⟩
abbrev main_v603 : Ref sig .tc := ⟨.hbm, 755, rfl⟩
abbrev main_c_95 : Ref sig .tc := ⟨.hbm, 756, rfl⟩
abbrev main_v604 : Ref sig .tc := ⟨.hbm, 757, rfl⟩
abbrev main_v605 : Ref sig .tc := ⟨.hbm, 758, rfl⟩
abbrev main_c_96 : Ref sig .tc := ⟨.hbm, 759, rfl⟩
abbrev main_v606 : Ref sig .tc := ⟨.hbm, 760, rfl⟩
abbrev main_v607 : Ref sig .tc := ⟨.hbm, 761, rfl⟩
abbrev main_v608 : Ref sig .tc := ⟨.hbm, 762, rfl⟩
abbrev main_v609 : Ref sig .tc := ⟨.hbm, 763, rfl⟩
abbrev main_v610 : Ref sig .tc := ⟨.hbm, 764, rfl⟩
abbrev main_v611 : Ref sig .tc := ⟨.hbm, 765, rfl⟩
abbrev main_v612 : Ref sig .tc := ⟨.hbm, 766, rfl⟩
abbrev main_v613 : Ref sig .tc := ⟨.hbm, 767, rfl⟩
abbrev main_v614 : Ref sig .tc := ⟨.hbm, 768, rfl⟩
abbrev main_v615 : Ref sig .tc := ⟨.hbm, 769, rfl⟩
abbrev main_v616 : Ref sig .tc := ⟨.hbm, 770, rfl⟩
abbrev main_v617 : Ref sig .tc := ⟨.hbm, 771, rfl⟩
abbrev main_v618 : Ref sig .tc := ⟨.hbm, 772, rfl⟩
abbrev main_v619 : Ref sig .tc := ⟨.hbm, 773, rfl⟩
abbrev main_v620 : Ref sig .tc := ⟨.hbm, 774, rfl⟩
abbrev main_v621 : Ref sig .tc := ⟨.hbm, 775, rfl⟩
abbrev main_v622 : Ref sig .tc := ⟨.hbm, 776, rfl⟩
abbrev main_v623 : Ref sig .tc := ⟨.hbm, 777, rfl⟩
abbrev main_v624 : Ref sig .tc := ⟨.hbm, 778, rfl⟩
abbrev main_v625 : Ref sig .tc := ⟨.hbm, 779, rfl⟩
abbrev main_v626 : Ref sig .tc := ⟨.hbm, 780, rfl⟩
abbrev main_v627 : Ref sig .tc := ⟨.hbm, 781, rfl⟩
abbrev main_v628 : Ref sig .tc := ⟨.hbm, 782, rfl⟩
abbrev main_v629 : Ref sig .tc := ⟨.hbm, 783, rfl⟩
abbrev main_v630 : Ref sig .tc := ⟨.hbm, 784, rfl⟩
abbrev main_v631 : Ref sig .tc := ⟨.hbm, 785, rfl⟩
abbrev main_cst_97 : Ref sig .tc := ⟨.hbm, 786, rfl⟩
abbrev main_v632 : Ref sig .tc := ⟨.hbm, 787, rfl⟩
abbrev main_v633 : Ref sig .tc := ⟨.hbm, 788, rfl⟩
abbrev main_cst_98 : Ref sig .tc := ⟨.hbm, 789, rfl⟩
abbrev main_v634 : Ref sig .tc := ⟨.hbm, 790, rfl⟩
abbrev main_v635 : Ref sig .tc := ⟨.hbm, 791, rfl⟩
abbrev main_v636 : Ref sig .tc := ⟨.hbm, 792, rfl⟩
abbrev main_v637 : Ref sig .tc := ⟨.hbm, 793, rfl⟩
abbrev main_cst_99 : Ref sig .tc := ⟨.hbm, 794, rfl⟩
abbrev main_call13_v0 : Ref sig .tc := ⟨.hbm, 795, rfl⟩
abbrev main_call13_v1 : Ref sig .tc := ⟨.hbm, 796, rfl⟩
abbrev main_call13_v2 : Ref sig .tc := ⟨.hbm, 797, rfl⟩
abbrev main_v638 : Ref sig .tc := ⟨.hbm, 798, rfl⟩
abbrev main_v639 : Ref sig .tc := ⟨.hbm, 799, rfl⟩
abbrev main_v640 : Ref sig .tc := ⟨.hbm, 800, rfl⟩
abbrev main_v641 : Ref sig .tc := ⟨.hbm, 801, rfl⟩
abbrev main_v642 : Ref sig .tc := ⟨.hbm, 802, rfl⟩
abbrev main_v643 : Ref sig .tc := ⟨.hbm, 803, rfl⟩
abbrev main_v644 : Ref sig .tc := ⟨.hbm, 804, rfl⟩
abbrev main_v645 : Ref sig .tc := ⟨.hbm, 805, rfl⟩
abbrev main_cst_100 : Ref sig .tc := ⟨.hbm, 806, rfl⟩
abbrev main_v646 : Ref sig .tc := ⟨.hbm, 807, rfl⟩
abbrev main_cst_101 : Ref sig .tc := ⟨.hbm, 808, rfl⟩
abbrev main_v647 : Ref sig .tc := ⟨.hbm, 809, rfl⟩
abbrev main_v648 : Ref sig .tc := ⟨.hbm, 810, rfl⟩
abbrev main_v649 : Ref sig .tc := ⟨.hbm, 811, rfl⟩
abbrev main_v650 : Ref sig .tc := ⟨.hbm, 812, rfl⟩
abbrev main_v651 : Ref sig .tc := ⟨.hbm, 813, rfl⟩
abbrev main_v652 : Ref sig .tc := ⟨.hbm, 814, rfl⟩
abbrev main_cst_102 : Ref sig .tc := ⟨.hbm, 815, rfl⟩
abbrev main_v653 : Ref sig .tc := ⟨.hbm, 816, rfl⟩
abbrev main_cst_103 : Ref sig .tc := ⟨.hbm, 817, rfl⟩
abbrev main_v654 : Ref sig .tc := ⟨.hbm, 818, rfl⟩
abbrev main_v655 : Ref sig .tc := ⟨.hbm, 819, rfl⟩
abbrev main_v656 : Ref sig .tc := ⟨.hbm, 820, rfl⟩
abbrev main_v657 : Ref sig .tc := ⟨.hbm, 821, rfl⟩
abbrev main_v658 : Ref sig .tc := ⟨.hbm, 822, rfl⟩
abbrev main_cst_104 : Ref sig .tc := ⟨.hbm, 823, rfl⟩
abbrev main_v659 : Ref sig .tc := ⟨.hbm, 824, rfl⟩
abbrev main_v660 : Ref sig .tc := ⟨.hbm, 825, rfl⟩
abbrev main_v661 : Ref sig .tc := ⟨.hbm, 826, rfl⟩
abbrev main_v662 : Ref sig .tc := ⟨.hbm, 827, rfl⟩
abbrev main_v663 : Ref sig .tc := ⟨.hbm, 828, rfl⟩
abbrev main_v664 : Ref sig .tc := ⟨.hbm, 829, rfl⟩
abbrev main_v665 : Ref sig .tc := ⟨.hbm, 830, rfl⟩
abbrev main_v666 : Ref sig .tc := ⟨.hbm, 831, rfl⟩
abbrev main_v667 : Ref sig .tc := ⟨.hbm, 832, rfl⟩
abbrev main_v668 : Ref sig .tc := ⟨.hbm, 833, rfl⟩
abbrev main_v669 : Ref sig .tc := ⟨.hbm, 834, rfl⟩
abbrev main_v670 : Ref sig .tc := ⟨.hbm, 835, rfl⟩
abbrev main_call14_cst : Ref sig .tc := ⟨.hbm, 836, rfl⟩
abbrev main_call14_v0 : Ref sig .tc := ⟨.hbm, 837, rfl⟩
abbrev main_v671 : Ref sig .tc := ⟨.hbm, 838, rfl⟩
abbrev main_v672 : Ref sig .tc := ⟨.hbm, 839, rfl⟩
abbrev main_v673 : Ref sig .tc := ⟨.hbm, 840, rfl⟩
abbrev main_v674 : Ref sig .tc := ⟨.hbm, 841, rfl⟩
abbrev main_v675 : Ref sig .tc := ⟨.hbm, 842, rfl⟩
abbrev main_v676 : Ref sig .tc := ⟨.hbm, 843, rfl⟩
abbrev main_v677 : Ref sig .tc := ⟨.hbm, 844, rfl⟩

abbrev nD : Nat := 1
abbrev τ : Topo := Topo.v7x

variable {F : FTy → Type} [FloatOps F]
-- ==== Proof.Frames.lean ====
/- The three frames: each program terminates, leaves its arguments as they were and every counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel runs to an end with its arguments unchanged. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference: its run read at its arguments; it declares no counter. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Basics.lean ====
/-
  The vocabulary of the value proof: an array of extended reals that holds real numbers, described by a
  real-valued function of natural-number coordinates, and how sums, products and maxima of such entries are
  again real.
-/
module

public import Idealize.ShloMosaic.Lib.Pointwise
public import Idealize.ShloMosaic.Lib.Pipeline.ValueKit

@[expose] public section
noncomputable section
namespace Cert.Proof
open Idealize.ShloMosaic

/-- The array `v` of one axis holds the real number `f i` at the index `i`. -/
def Rd1 {a : ℕ} (v : (⟨1, ![a]⟩ : Shape).Idx → EReal) (f : ℕ → ℝ) : Prop :=
  ∀ i : Fin a, v (ix1 i) = ((f i : ℝ) : EReal)
/-- The array `v` of two axes holds the real number `f i j` at the index `(i, j)`. -/
def Rd2 {a b : ℕ} (v : (⟨2, ![a, b]⟩ : Shape).Idx → EReal) (f : ℕ → ℕ → ℝ) : Prop :=
  ∀ (i : Fin a) (j : Fin b), v (ix2 i j) = ((f i j : ℝ) : EReal)
/-- The array `v` of three axes holds the real number `f i j k` at the index `(i, j, k)`. -/
def Rd3 {a b c : ℕ} (v : (⟨3, ![a, b, c]⟩ : Shape).Idx → EReal) (f : ℕ → ℕ → ℕ → ℝ) : Prop :=
  ∀ (i : Fin a) (j : Fin b) (k : Fin c), v (ix3 i j k) = ((f i j k : ℝ) : EReal)
/-- The array `v` of four axes holds the real number `f i j k l` at the index `(i, j, k, l)`. -/
def Rd4 {a b c d : ℕ} (v : (⟨4, ![a, b, c, d]⟩ : Shape).Idx → EReal) (f : ℕ → ℕ → ℕ → ℕ → ℝ) : Prop :=
  ∀ (i : Fin a) (j : Fin b) (k : Fin c) (l : Fin d), v (ix4 i j k l) = ((f i j k l : ℝ) : EReal)

/-- The three-axis array that holds the real numbers `f i j k`. -/
def arr3 {a b c : ℕ} (f : ℕ → ℕ → ℕ → ℝ) : (⟨3, ![a, b, c]⟩ : Shape).Idx → EReal :=
  fun i => ((f (i 0) (i 1) (i 2) : ℝ) : EReal)

/-- An array equal to `arr3 f` holds `f`. -/
theorem Rd3.of_eq {a b c : ℕ} {v : (⟨3, ![a, b, c]⟩ : Shape).Idx → EReal} {f : ℕ → ℕ → ℕ → ℝ} (h : v = arr3 f) :
    Rd3 v f := fun i j k => by rw [h]; rfl

/-- A load through a unit-stride rectangle of a three-axis array of real numbers. -/
theorem Rd3.ld {a b c a' b' c' : ℕ} {X : (⟨3, ![a, b, c]⟩ : Shape).Idx → EReal} {f : ℕ → ℕ → ℕ → ℝ} (h : Rd3 X f)
    (o0 o1 o2 : ℕ) (inb) :
    Rd3 (View.ld (Val := Elt Ideal) (e' := .f32) X (Rect.unit (s := ⟨3, ![a, b, c]⟩) ![o0, o1, o2] ![a', b', c'] inb))
      fun i j k => f (o0 + i) (o1 + j) (o2 + k) := by
  intro i j k
  have h0 : o0 + i < a := by have := inb 0; simp at this; omega
  have h1 : o1 + j < b := by have := inb 1; simp at this; omega
  have h2 : o2 + k < c := by have := inb 2; simp at this; omega
  refine (View.ld_unit_apply_of (Val := Elt Ideal) (e := .f32) X _ _ inb _ (ix3 ⟨o0 + i, h0⟩ ⟨o1 + j, h1⟩ ⟨o2 + k, h2⟩) ?_).trans
    (h _ _ _)
  intro d
  fin_cases d <;> rfl

/-- A load through a unit-stride rectangle of a two-axis array of real numbers. -/
theorem Rd2.ld {a b a' b' : ℕ} {X : (⟨2, ![a, b]⟩ : Shape).Idx → EReal} {f : ℕ → ℕ → ℝ} (h : Rd2 X f)
    (o0 o1 : ℕ) (inb) :
    Rd2 (View.ld (Val := Elt Ideal) (e' := .f32) X (Rect.unit (s := ⟨2, ![a, b]⟩) ![o0, o1] ![a', b'] inb))
      fun i j => f (o0 + i) (o1 + j) := by
  intro i j
  have h0 : o0 + i < a := by have := inb 0; simp at this; omega
  have h1 : o1 + j < b := by have := inb 1; simp at this; omega
  refine (View.ld_unit_apply_of (Val := Elt Ideal) (e := .f32) X _ _ inb _ (ix2 ⟨o0 + i, h0⟩ ⟨o1 + j, h1⟩) ?_).trans (h _ _)
  intro d
  fin_cases d <;> rfl

/-- Reading the same real numbers by another formula. -/
theorem Rd3.congr {a b c : ℕ} {v : (⟨3, ![a, b, c]⟩ : Shape).Idx → EReal} {f g : ℕ → ℕ → ℕ → ℝ} (h : Rd3 v f)
    (e : ∀ i < a, ∀ j < b, ∀ k < c, f i j k = g i j k) : Rd3 v g := fun i j k => by
  rw [h i j k, e i i.isLt j j.isLt k k.isLt]

/-- Reading the same real numbers by another formula. -/
theorem Rd2.congr {a b : ℕ} {v : (⟨2, ![a, b]⟩ : Shape).Idx → EReal} {f g : ℕ → ℕ → ℝ} (h : Rd2 v f)
    (e : ∀ i < a, ∀ j < b, f i j = g i j) : Rd2 v g := fun i j => by
  rw [h i j, e i i.isLt j j.isLt]

/-- A block of a three-axis array of real numbers, cut at `q` along the first axis. -/
theorem Rd3.blk {a b c a' : ℕ} {X : (⟨3, ![a, b, c]⟩ : Shape).Idx → EReal} {f : ℕ → ℕ → ℕ → ℝ} (h : Rd3 X f)
    (e : (⟨3, ![a', b, c]⟩ : Shape).Idx → (⟨3, ![a, b, c]⟩ : Shape).Idx) (q : ℕ)
    (he : ∀ j, (e j 0 : ℕ) = q + j 0 ∧ (e j 1 : ℕ) = j 1 ∧ (e j 2 : ℕ) = j 2) :
    Rd3 (fun j => X (e j)) fun i j k => f (q + i) j k := by
  intro i j k
  obtain ⟨e0, e1, e2⟩ := he (ix3 i j k)
  have h0 : q + i < a := by rw [show q + (i : ℕ) = (e (ix3 i j k) 0 : ℕ) from e0.symm]; exact (e (ix3 i j k) 0).isLt
  refine Eq.trans (congrArg X (?_ : e (ix3 i j k) = ix3 ⟨q + i, h0⟩ j k)) (h _ _ _)
  funext d
  fin_cases d
  exacts [Fin.ext e0, Fin.ext e1, Fin.ext e2]

/-- The whole of a two-axis array of real numbers, read as one block. -/
theorem Rd2.blk {a b : ℕ} {X : (⟨2, ![a, b]⟩ : Shape).Idx → EReal} {f : ℕ → ℕ → ℝ} (h : Rd2 X f)
    (e : (⟨2, ![a, b]⟩ : Shape).Idx → (⟨2, ![a, b]⟩ : Shape).Idx)
    (he : ∀ j, (e j 0 : ℕ) = j 0 ∧ (e j 1 : ℕ) = j 1) : Rd2 (fun j => X (e j)) f := by
  intro i j
  obtain ⟨e0, e1⟩ := he (ix2 i j)
  refine Eq.trans (congrArg X (?_ : e (ix2 i j) = ix2 i j)) (h _ _)
  funext d
  fin_cases d
  exacts [Fin.ext e0, Fin.ext e1]

/-- Where a block cut at `q` along the first axis lies in the array `arr3 f`. -/
theorem arr3_blk {a b c a' : ℕ} {f : ℕ → ℕ → ℕ → ℝ} (e : (⟨3, ![a', b, c]⟩ : Shape).Idx → (⟨3, ![a, b, c]⟩ : Shape).Idx)
    (q : ℕ) (he : ∀ j, (e j 0 : ℕ) = q + j 0 ∧ (e j 1 : ℕ) = j 1 ∧ (e j 2 : ℕ) = j 2) (j : (⟨3, ![a', b, c]⟩ : Shape).Idx) :
    ((f (q + j 0) (j 1) (j 2) : ℝ) : EReal) = arr3 f (e j) := by
  unfold arr3
  rw [(he j).1, (he j).2.1, (he j).2.2]

/-- A finite sum of real numbers, taken in the extended reals, is their real sum. -/
theorem coe_sum_real {ι : Type*} (s : Finset ι) (f : ι → ℝ) :
    (∑ x ∈ s, ((f x : ℝ) : EReal)) = ((∑ x ∈ s, f x : ℝ) : EReal) := by
  classical
  induction s using Finset.induction_on with
  | empty => simp
  | insert a s h ih => rw [Finset.sum_insert h, Finset.sum_insert h, ih, EReal.coe_add]

/-- A sum over the indices of an axis of real entries is the real sum over the natural numbers below its extent. -/
theorem coe_sum_fin {n : ℕ} (f : ℕ → ℝ) :
    (∑ x : Fin n, ((f x : ℝ) : EReal)) = ((∑ x ∈ Finset.range n, f x : ℝ) : EReal) := by
  rw [coe_sum_real, Finset.sum_range]

/-- The maximum of two real numbers, taken in the extended reals, is their real maximum. -/
theorem coe_max_real (a b : ℝ) : max (a : EReal) (b : EReal) = ((max a b : ℝ) : EReal) :=
  (EReal.coe_strictMono.monotone.map_max).symm

/-- The maximum with zero of a real number is real. -/
theorem coe_max_zero (a : ℝ) : max (a : EReal) 0 = ((max a 0 : ℝ) : EReal) := coe_max_real a 0

/-- The minimum of two real numbers, taken in the extended reals, is their real minimum. -/
theorem coe_min_real (a b : ℝ) : min (a : EReal) (b : EReal) = ((min a b : ℝ) : EReal) :=
  (EReal.coe_strictMono.monotone.map_min).symm

/-- A choice between two real numbers is real. -/
theorem coe_ite_real (p : Prop) [Decidable p] (a b : ℝ) :
    (if p then (a : EReal) else (b : EReal)) = ((if p then a else b : ℝ) : EReal) := by
  split <;> rfl

/-- A choice between zero and a real number is real. -/
theorem coe_ite_zero (p : Prop) [Decidable p] (b : ℝ) :
    (if p then (0 : EReal) else (b : EReal)) = ((if p then 0 else b : ℝ) : EReal) := by
  split <;> rfl

/-- A choice between a real number and zero is real. -/
theorem coe_ite_zero' (p : Prop) [Decidable p] (b : ℝ) :
    (if p then (b : EReal) else (0 : EReal)) = ((if p then b else 0 : ℝ) : EReal) := by
  split <;> rfl

end Cert.Proof
end
-- ==== Proof.ConvBlock.lean ====
/-
  What the convolution kernels compute from one image: the image, laid out as rows of 36·36 positions, is stacked
  with itself moved one picture row up and down (768 columns), multiplied by three matrices of taps, and the three
  products, the first moved one position right and the last one position left, are added with the bias.
-/
module

public import proofs.«01_k».proof.Proof.Basics
public import Idealize.ShloMosaic.Lib.Routing.Words
public import proofs.«01_k».proof.Proof.Gen.KernelIdeal.Frame

@[expose] public section
set_option maxRecDepth 16384
noncomputable section
namespace Cert.Proof
open Idealize.ShloMosaic Idealize.SL.Sem Cert.KernelIdeal Cert.KernelIdeal.Gen

/-- Column `k` of position `p` of the stacked image: channel `k % 256` one picture row above, at, or below `p`. -/
def stackR (a : ℕ → ℕ → ℝ) (p k : ℕ) : ℝ :=
  if k < 256 then (if p < 36 then 0 else a (p - 36) k)
  else if k - 256 < 256 then a p (k - 256)
  else if p < 1260 then a (36 + p) (k - 256 - 256) else 0

/-- The stacked image times one matrix of taps. -/
def tapR (a : ℕ → ℕ → ℝ) (t : ℕ → ℕ → ℝ) (p o : ℕ) : ℝ :=
  ∑ k ∈ Finset.range 768, stackR a p k * t k o

/-- The block's convolution: the middle product, the first moved right, the last moved left, and the bias. -/
def convR (a : ℕ → ℕ → ℝ) (t : ℕ → ℕ → ℕ → ℝ) (b : ℕ → ℝ) (p o : ℕ) : ℝ :=
  tapR a (t 1) p o + (if p % 36 = 0 then 0 else tapR a (t 0) (p - 1) o)
    + (if p % 36 = 35 then 0 else tapR a (t 2) (p + 1) o) + b o

/-- The image with its per-channel scale, shift and positive part. -/
def reluR (y : ℕ → ℕ → ℝ) (s t : ℕ → ℝ) (p i : ℕ) : ℝ := max (y p i * s i + t i) 0

/-- The stacked image holds real numbers. -/
theorem stack_rd {v0 : Vec Ideal S1x1296x256 .f32} {v2 v6 : Vec Ideal S1x256 .f32} {y : ℕ → ℕ → ℝ} {s t : ℕ → ℝ}
    (h0 : Rd3 v0 fun _ p i => y p i) (h2 : Rd2 v2 fun _ i => s i) (h6 : Rd2 v6 fun _ i => t i) :
    Rd2 (k1_pay4 v0 v2 v6) (stackR (reluR y s t)) := by
  intro p k
  pointwise [k1_pay4]
  simp only [h0 _ _ _, h2 _ _, h6 _ _, ← EReal.coe_mul, ← EReal.coe_add, coe_max_zero]
  unfold stackR reluR
  split_ifs <;> first | rfl | simp

/-- The product with the first matrix of taps. -/
theorem tap0_rd {v0 : Vec Ideal S1x1296x256 .f32} {v2 v6 : Vec Ideal S1x256 .f32} {w : Vec Ideal S1x768x256 .f32}
    {y : ℕ → ℕ → ℝ} {s t : ℕ → ℝ} {m : ℕ → ℕ → ℝ}
    (h0 : Rd3 v0 fun _ p i => y p i) (h2 : Rd2 v2 fun _ i => s i) (h6 : Rd2 v6 fun _ i => t i)
    (hw : Rd3 w fun _ k o => m k o) :
    Rd2 (k1_pay5 v0 v2 v6 w) (tapR (reluR y s t) m) := by
  intro p o
  pointwise [k1_pay5]
  simp only [stack_rd h0 h2 h6 _ _, hw _ _ _, ← EReal.coe_mul]
  exact coe_sum_fin fun k => stackR (reluR y s t) p k * m k o

/-- The printed word comparison "the column of position `p` is `n`", used to choose between two values. -/
theorem select_col {α : Type} {p n : ℕ} (hp : p < 1296) (hn : n < 36) (x y : α) :
    Scalar.select (IntOp.cmpi .eq (IntOp.remsi .vector (BitVec.ofNat 32 p) 36#32) (BitVec.ofNat 32 n)) x y
      = if p % 36 = n then x else y := by
  rw [Routing.remsi_word .vector (by omega) (by decide) (by decide), WordCmp.cmpi_eq_ofNat (by omega) (by omega),
    WordCmp.select_decide]

/-- The sum of the three products, moved into place, and the bias. -/
theorem acc_rd {v21 v24 v27 : FVec Ideal S1296x256 .f32} {b : Vec Ideal S1x256 .f32} {z0 z1 z2 : ℕ → ℕ → ℝ} {β : ℕ → ℝ}
    (h0 : Rd2 v21 z0) (h1 : Rd2 v24 z1) (h2 : Rd2 v27 z2) (hb : Rd2 b fun _ o => β o) :
    Rd2 (k1_pay11 v21 v24 v27 k1_pay8 k1_pay9 (k1_pay10 (F := Ideal)) b)
      (fun p o => z1 p o + (if p % 36 = 0 then 0 else z0 (p - 1) o) + (if p % 36 = 35 then 0 else z2 (p + 1) o) + β o) := by
  intro p o
  pointwise [k1_pay11, k1_pay8, k1_pay9, k1_pay10]
  simp only [select_col p.isLt (show 0 < 36 by decide), select_col p.isLt (show 35 < 36 by decide),
    h0 _ _, h1 _ _, h2 _ _, hb _ _]
  have e0 : (if (p : ℕ) % 36 = 0 then (0 : EReal) else if h : (p : ℕ) < 1 then 0 else ((z0 ((p : ℕ) - 1) o : ℝ) : EReal))
      = ((if (p : ℕ) % 36 = 0 then 0 else z0 ((p : ℕ) - 1) o : ℝ) : EReal) := by
    split_ifs <;> first | rfl | omega
  have e2 : (if (p : ℕ) % 36 = 35 then (0 : EReal) else if h : (p : ℕ) < 1295 then ((z2 (1 + (p : ℕ)) o : ℝ) : EReal) else 0)
      = ((if (p : ℕ) % 36 = 35 then 0 else z2 ((p : ℕ) + 1) o : ℝ) : EReal) := by
    have := p.isLt
    split_ifs <;> first | rfl | omega | rw [add_comm]
  rw [e0, e2]
  norm_cast

/-- What a convolution kernel stores of one image: the convolution of the scaled, shifted, positive image. -/
theorem image_rd {v0 : Vec Ideal S1x1296x256 .f32} {v2 v6 : Vec Ideal S1x256 .f32} {w0 w1 w2 : Vec Ideal S1x768x256 .f32}
    {b : Vec Ideal S1x256 .f32} {y : ℕ → ℕ → ℝ} {s t β : ℕ → ℝ} {m : ℕ → ℕ → ℕ → ℝ}
    (h0 : Rd3 v0 fun _ p i => y p i) (h2 : Rd2 v2 fun _ i => s i) (h6 : Rd2 v6 fun _ i => t i)
    (hw0 : Rd3 w0 fun _ k o => m 0 k o) (hw1 : Rd3 w1 fun _ k o => m 1 k o) (hw2 : Rd3 w2 fun _ k o => m 2 k o)
    (hb : Rd2 b fun _ o => β o) :
    Rd2 (k1_pay11 (k1_pay5 v0 v2 v6 w0) (k1_pay6 v0 v2 v6 w1) (k1_pay7 v0 v2 v6 w2) k1_pay8 k1_pay9
      (k1_pay10 (F := Ideal)) b) (convR (reluR y s t) m β) :=
  acc_rd (tap0_rd h0 h2 h6 hw0) (tap0_rd h0 h2 h6 hw1) (tap0_rd h0 h2 h6 hw2) hb

/-- The image stored as a slab of the block. -/
theorem slab_rd {v21 v24 v27 : FVec Ideal S1296x256 .f32} {v30 v32 v33} {b : Vec Ideal S1x256 .f32} {f : ℕ → ℕ → ℝ}
    (h : Rd2 (k1_pay11 v21 v24 v27 v30 v32 v33 b) f) :
    Rd3 (k1_pay12 v21 v24 v27 v30 v32 v33 b) (fun _ p o => f p o) := by
  intro n p o
  pointwise [k1_pay12]
  exact h p o

/-- The slab of sums stored beside it: row 0 the sum over the positions, row 1 the sum of the squares, then zeros. -/
def statR (f : ℕ → ℕ → ℝ) (r o : ℕ) : ℝ :=
  if r < 1 then ∑ p ∈ Finset.range 1296, f p o
  else if r - 1 < 1 then ∑ p ∈ Finset.range 1296, f p o * f p o else 0

/-- The slab of sums holds real numbers. -/
theorem stat_rd {v21 v24 v27 : FVec Ideal S1296x256 .f32} {v30 v32 v33} {b : Vec Ideal S1x256 .f32} {f : ℕ → ℕ → ℝ}
    (h : Rd2 (k1_pay11 v21 v24 v27 v30 v32 v33 b) f) :
    Rd3 (k1_pay13 v21 v24 v27 v30 v32 v33 b) (fun _ r o => statR f r o) := by
  intro n r o
  obtain rfl : n = 0 := Subsingleton.elim _ _
  pointwise [k1_pay13]
  simp only [h _ _, ← EReal.coe_mul]
  have e1 := coe_sum_fin (n := 1296) fun p => f p o
  have e2 := coe_sum_fin (n := 1296) fun p => f p o * f p o
  rw [e1, e2]
  unfold statR
  split_ifs <;> rfl

/-- The second image of a block is computed as the first is. -/
theorem slab_second (v0 : Vec Ideal S1x1296x256 .f32) (v2 v6 : Vec Ideal S1x256 .f32) (w0 w1 w2 : Vec Ideal S1x768x256 .f32)
    (b : Vec Ideal S1x256 .f32) :
    k1_pay2 (k1_pay17 (k1_pay14 v0) (k1_pay15 v2) v6 w2) k1_pay18 (k1_pay19 (k1_pay14 v0) (k1_pay15 v2) v6 w0 w1) k1_pay20 b
      = k1_pay12 (k1_pay5 v0 v2 v6 w0) (k1_pay6 v0 v2 v6 w1) (k1_pay7 v0 v2 v6 w2) k1_pay8 k1_pay9
      (k1_pay10 (F := Ideal)) b := rfl

/-- The second image's sums are computed as the first's are. -/
theorem stat_second (v0 : Vec Ideal S1x1296x256 .f32) (v2 v6 : Vec Ideal S1x256 .f32) (w0 w1 w2 : Vec Ideal S1x768x256 .f32)
    (b : Vec Ideal S1x256 .f32) :
    k1_pay3 (k1_pay17 (k1_pay14 v0) (k1_pay15 v2) v6 w2) k1_pay18 (k1_pay19 (k1_pay14 v0) (k1_pay15 v2) v6 w0 w1) k1_pay20 b
      = k1_pay13 (k1_pay5 v0 v2 v6 w0) (k1_pay6 v0 v2 v6 w1) (k1_pay7 v0 v2 v6 w2) k1_pay8 k1_pay9
      (k1_pay10 (F := Ideal)) b := rfl

end Cert.Proof
end
-- ==== Proof.ConvArray.lean ====
/-
  What the arrays hold after a convolution kernel has run over its grid: each grid point computes two images, and
  the points together fill the thirty-two images and their sums.
-/
module

public import proofs.«01_k».proof.Proof.ConvBlock

@[expose] public section
set_option maxRecDepth 16384
noncomputable section
namespace Cert.Proof
open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

/-- One image of the block, convolved. -/
theorem block_image {x0 : Vec Ideal S2x1296x256 .f32} {x1 : Vec Ideal S3x768x256 .f32} {x2 x3 x4 : Vec Ideal S1x256 .f32}
    {y : ℕ → ℕ → ℕ → ℝ} {s t β : ℕ → ℝ} {m : ℕ → ℕ → ℕ → ℝ}
    (h0 : Rd3 x0 y) (h1 : Rd3 x1 m) (h2 : Rd2 x2 fun _ o => β o) (h3 : Rd2 x3 fun _ o => s o) (h4 : Rd2 x4 fun _ o => t o)
    (n : ℕ) (inb) :
    Rd2 (k1_pay11
      (k1_pay5 (View.ld (Val := Elt Ideal) (e' := .f32) x0 (Rect.unit (s := S2x1296x256) ![n, 0, 0] S1x1296x256.size inb)) (View.ld x3 r1_1) (View.ld x4 r1_1) (View.ld x1 r1_2))
      (k1_pay6 (View.ld (Val := Elt Ideal) (e' := .f32) x0 (Rect.unit (s := S2x1296x256) ![n, 0, 0] S1x1296x256.size inb)) (View.ld x3 r1_1) (View.ld x4 r1_1) (View.ld x1 r1_3))
      (k1_pay7 (View.ld (Val := Elt Ideal) (e' := .f32) x0 (Rect.unit (s := S2x1296x256) ![n, 0, 0] S1x1296x256.size inb)) (View.ld x3 r1_1) (View.ld x4 r1_1) (View.ld x1 r1_4))
      k1_pay8 k1_pay9 (k1_pay10 (F := Ideal)) (View.ld x2 r1_1)) (convR (reluR (y n) s t) m β) := by
  have e3 : ∀ (f : ℕ → ℕ → ℕ → ℝ) (n : ℕ), ∀ i < 1, ∀ j : ℕ, ∀ k : ℕ, f (n + i) (0 + j) (0 + k) = f n j k := by
    intro f n i hi j k
    obtain rfl : i = 0 := by omega
    simp only [Nat.add_zero, Nat.zero_add]
  have e2 : ∀ (f : ℕ → ℝ) (i k : ℕ), f (0 + k) = f k := fun f i k => by rw [Nat.zero_add]
  refine image_rd (y := y n) ((h0.ld n 0 0 inb).congr fun i hi j _ k _ => e3 y n i hi j k)
    ((h3.ld 0 0 inb_S1x256_S1x256_0_0).congr fun i _ k _ => e2 s i k)
    ((h4.ld 0 0 inb_S1x256_S1x256_0_0).congr fun i _ k _ => e2 t i k)
    ((h1.ld 0 0 0 _).congr fun i hi j _ k _ => e3 m 0 i hi j k)
    ((h1.ld 1 0 0 _).congr fun i hi j _ k _ => e3 m 1 i hi j k)
    ((h1.ld 2 0 0 _).congr fun i hi j _ k _ => e3 m 2 i hi j k)
    ((h2.ld 0 0 inb_S1x256_S1x256_0_0).congr fun i _ k _ => e2 β i k)

/-- What region 1 stores in the slabs of images. -/
theorem block_y {x0 : Vec Ideal S2x1296x256 .f32} {x1 : Vec Ideal S3x768x256 .f32} {x2 x3 x4 : Vec Ideal S1x256 .f32}
    {y : ℕ → ℕ → ℕ → ℝ} {s t β : ℕ → ℝ} {m : ℕ → ℕ → ℕ → ℝ}
    (r0 : Rd3 x0 y) (r1 : Rd3 x1 m) (r2 : Rd2 x2 fun _ o => β o) (r3 : Rd2 x3 fun _ o => s o) (r4 : Rd2 x4 fun _ o => t o) :
    Rd3 (out1_5 x0 x1 x2 x3 x4) (fun n p o => convR (reluR (y n) s t) m β p o) := by
  intro n p o
  unfold_out out1_5
  canon_tiles x h
  · rw [slab_second]
    idx_vars x
    rw [slab_rd (block_image r0 r1 r2 r3 r4 1 inb_S2x1296x256_S1x1296x256_1_0_0) _ _ _]
    rw [show (n : ℕ) = 1 by omega, h1, h2]
  · idx_vars x
    rw [slab_rd (block_image r0 r1 r2 r3 r4 0 inb_S2x1296x256_S1x1296x256_0_0_0) _ _ _]
    rw [show (n : ℕ) = 0 by omega, h1, h2]

/-- What region 1 stores in the slabs of sums. -/
theorem block_st {x0 : Vec Ideal S2x1296x256 .f32} {x1 : Vec Ideal S3x768x256 .f32} {x2 x3 x4 : Vec Ideal S1x256 .f32}
    {y : ℕ → ℕ → ℕ → ℝ} {s t β : ℕ → ℝ} {m : ℕ → ℕ → ℕ → ℝ}
    (r0 : Rd3 x0 y) (r1 : Rd3 x1 m) (r2 : Rd2 x2 fun _ o => β o) (r3 : Rd2 x3 fun _ o => s o) (r4 : Rd2 x4 fun _ o => t o) :
    Rd3 (out1_6 x0 x1 x2 x3 x4) (fun n p o => statR (convR (reluR (y n) s t) m β) p o) := by
  intro n p o
  unfold_out out1_6
  canon_tiles x h
  · rw [stat_second]
    idx_vars x
    rw [stat_rd (block_image r0 r1 r2 r3 r4 1 inb_S2x1296x256_S1x1296x256_1_0_0) _ _ _]
    rw [show (n : ℕ) = 1 by omega, h1, h2]
  · idx_vars x
    rw [stat_rd (block_image r0 r1 r2 r3 r4 0 inb_S2x1296x256_S1x1296x256_0_0_0) _ _ _]
    rw [show (n : ℕ) = 0 by omega, h1, h2]

variable (V : (c : Dev nD) → (b : Ref sig .tc) → Buf (Elt Ideal) ((c : Thread nD τ).loc b)) (c : Dev nD)
variable {y : ℕ → ℕ → ℕ → ℝ} {s t β : ℕ → ℝ} {m : ℕ → ℕ → ℕ → ℝ}

/-! ## Region 1 -/

/-- Region 1's index maps: the images and their sums advance with the grid point, the rest stays. -/
theorem idx1 : ∀ t : Fin grid1.N,
    (win1_0.index t 0 = t ∧ win1_0.index t 1 = 0 ∧ win1_0.index t 2 = 0)
    ∧ (win1_1.index t 0 = 0 ∧ win1_1.index t 1 = 0 ∧ win1_1.index t 2 = 0)
    ∧ (win1_2.index t 0 = 0 ∧ win1_2.index t 1 = 0) ∧ (win1_3.index t 0 = 0 ∧ win1_3.index t 1 = 0)
    ∧ (win1_4.index t 0 = 0 ∧ win1_4.index t 1 = 0)
    ∧ (win1_5.index t 0 = t ∧ win1_5.index t 1 = 0 ∧ win1_5.index t 2 = 0)
    ∧ (win1_6.index t 0 = t ∧ win1_6.index t 1 = 0 ∧ win1_6.index t 2 = 0) := by decide +kernel

/-- The arrays region 1 reads hold real numbers: images `y`, taps `m`, biases `β`, scales `s`, shifts `t`. -/
structure In1 (y : ℕ → ℕ → ℕ → ℝ) (m : ℕ → ℕ → ℕ → ℝ) (β s t : ℕ → ℝ) : Prop where
  img : Rd3 (V c main_v8_0) y
  taps : Rd3 (V c main_v4) m
  bias : Rd2 (V c main_v27) fun _ o => β o
  scale : Rd2 (V c main_v28) fun _ o => s o
  shift : Rd2 (V c main_v29) fun _ o => t o

/-- The blocks region 1 reads at a grid point. -/
theorem blocks1 (h : In1 V c y m β s t) (i : Fin cfg1.N) :
    Rd3 (iblk1 V c 0 i : Vec Ideal S2x1296x256 .f32) (fun n p k => y (2 * i + n) p k)
    ∧ Rd3 (iblk1 V c 1 i : Vec Ideal S3x768x256 .f32) (fun n p k => m (0 + n) p k)
    ∧ Rd2 (iblk1 V c 2 i : Vec Ideal S1x256 .f32) (fun _ o => β o)
    ∧ Rd2 (iblk1 V c 3 i : Vec Ideal S1x256 .f32) (fun _ o => s o)
    ∧ Rd2 (iblk1 V c 4 i : Vec Ideal S1x256 .f32) (fun _ o => t o) := by
  refine ⟨h.img.blk (win1_0.blk i).view.emb (2 * i) fun j => ?_, h.taps.blk (win1_1.blk i).view.emb 0 fun j => ?_,
    h.bias.blk (win1_2.blk i).view.emb fun j => ?_, h.scale.blk (win1_3.blk i).view.emb fun j => ?_,
    h.shift.blk (win1_4.blk i).view.emb fun j => ?_⟩
  all_goals
    blk_simp [idx1 i]
    simp [mul_comm]

/-- The array of images after region 1. -/
theorem img1 (h : In1 V c y m β s t) :
    Rd3 ((dat1 V c).arrAt 5 cfg1.N : S32x1296x256.Idx → EReal) (fun n p o => convR (reluR (y n) s t) m β p o) := by
  refine Rd3.of_eq ((dat1 V c).arrAt_eq_of_covers 5
    (arr3 (a := 32) (b := 1296) (c := 256) fun n p o => convR (reluR (y n) s t) m β p o : S32x1296x256.Idx → EReal)
    (by decide +kernel) fun i hf j => ?_)
  blk_simp
  rw [after1_5]
  obtain ⟨b0, b1, b2, b3, b4⟩ := blocks1 V c h i
  idx_vars j
  refine (block_y b0 b1 b2 b3 b4 _ _ _).trans ?_
  simp only [Nat.zero_add]
  refine arr3_blk (f := fun n p o => convR (reluR (y n) s t) m β p o) (win1_5.blk i).view.emb (2 * i) (fun j => ?_) (ix3 j0 j1 j2)
  blk_simp [idx1 i]
  simp [mul_comm]

/-- The array of sums after region 1. -/
theorem sums1 (h : In1 V c y m β s t) :
    Rd3 ((dat1 V c).arrAt 6 cfg1.N : S32x8x256.Idx → EReal)
      (fun n r o => statR (convR (reluR (y n) s t) m β) r o) := by
  refine Rd3.of_eq ((dat1 V c).arrAt_eq_of_covers 6
    (arr3 (a := 32) (b := 8) (c := 256) fun n r o => statR (convR (reluR (y n) s t) m β) r o : S32x8x256.Idx → EReal)
    (by decide +kernel) fun i hf j => ?_)
  blk_simp
  rw [after1_6]
  obtain ⟨b0, b1, b2, b3, b4⟩ := blocks1 V c h i
  idx_vars j
  refine (block_st b0 b1 b2 b3 b4 _ _ _).trans ?_
  simp only [Nat.zero_add]
  refine arr3_blk (f := fun n r o => statR (convR (reluR (y n) s t) m β) r o) (win1_6.blk i).view.emb (2 * i) (fun j => ?_)
    (ix3 j0 j1 j2)
  blk_simp [idx1 i]
  simp [mul_comm]

/-! ## Region 2 -/

/-- Region 2's kernel is region 1's: it stores the same images -/
theorem out2_5_eq (x0 : Vec Ideal S2x1296x256 .f32) (x1 : Vec Ideal S3x768x256 .f32) (x2 x3 x4 : Vec Ideal S1x256 .f32) :
    out2_5 x0 x1 x2 x3 x4 = out1_5 x0 x1 x2 x3 x4 := rfl
/-- and the same sums. -/
theorem out2_6_eq (x0 : Vec Ideal S2x1296x256 .f32) (x1 : Vec Ideal S3x768x256 .f32) (x2 x3 x4 : Vec Ideal S1x256 .f32) :
    out2_6 x0 x1 x2 x3 x4 = out1_6 x0 x1 x2 x3 x4 := rfl

/-- Region 2's index maps: the images and their sums advance with the grid point, the rest stays. -/
theorem idx2 : ∀ t : Fin grid2.N,
    (win2_0.index t 0 = t ∧ win2_0.index t 1 = 0 ∧ win2_0.index t 2 = 0)
    ∧ (win2_1.index t 0 = 0 ∧ win2_1.index t 1 = 0 ∧ win2_1.index t 2 = 0)
    ∧ (win2_2.index t 0 = 0 ∧ win2_2.index t 1 = 0) ∧ (win2_3.index t 0 = 0 ∧ win2_3.index t 1 = 0)
    ∧ (win2_4.index t 0 = 0 ∧ win2_4.index t 1 = 0)
    ∧ (win2_5.index t 0 = t ∧ win2_5.index t 1 = 0 ∧ win2_5.index t 2 = 0)
    ∧ (win2_6.index t 0 = t ∧ win2_6.index t 1 = 0 ∧ win2_6.index t 2 = 0) := by decide +kernel

/-- The arrays region 2 reads hold real numbers: images `y`, taps `m`, biases `β`, scales `s`, shifts `t`. -/
structure In2 (y : ℕ → ℕ → ℕ → ℝ) (m : ℕ → ℕ → ℕ → ℝ) (β s t : ℕ → ℝ) : Prop where
  img : Rd3 (V c main_v30_0) y
  taps : Rd3 (V c main_v6) m
  bias : Rd2 (V c main_v49) fun _ o => β o
  scale : Rd2 (V c main_v50) fun _ o => s o
  shift : Rd2 (V c main_v51) fun _ o => t o

/-- The blocks region 2 reads at a grid point. -/
theorem blocks2 (h : In2 V c y m β s t) (i : Fin cfg2.N) :
    Rd3 (iblk2 V c 0 i : Vec Ideal S2x1296x256 .f32) (fun n p k => y (2 * i + n) p k)
    ∧ Rd3 (iblk2 V c 1 i : Vec Ideal S3x768x256 .f32) (fun n p k => m (0 + n) p k)
    ∧ Rd2 (iblk2 V c 2 i : Vec Ideal S1x256 .f32) (fun _ o => β o)
    ∧ Rd2 (iblk2 V c 3 i : Vec Ideal S1x256 .f32) (fun _ o => s o)
    ∧ Rd2 (iblk2 V c 4 i : Vec Ideal S1x256 .f32) (fun _ o => t o) := by
  refine ⟨h.img.blk (win2_0.blk i).view.emb (2 * i) fun j => ?_, h.taps.blk (win2_1.blk i).view.emb 0 fun j => ?_,
    h.bias.blk (win2_2.blk i).view.emb fun j => ?_, h.scale.blk (win2_3.blk i).view.emb fun j => ?_,
    h.shift.blk (win2_4.blk i).view.emb fun j => ?_⟩
  all_goals
    blk_simp [idx2 i]
    simp [mul_comm]

/-- The array of images after region 2. -/
theorem img2 (h : In2 V c y m β s t) :
    Rd3 ((dat2 V c).arrAt 5 cfg2.N : S32x1296x256.Idx → EReal) (fun n p o => convR (reluR (y n) s t) m β p o) := by
  refine Rd3.of_eq ((dat2 V c).arrAt_eq_of_covers 5
    (arr3 (a := 32) (b := 1296) (c := 256) fun n p o => convR (reluR (y n) s t) m β p o : S32x1296x256.Idx → EReal)
    (by decide +kernel) fun i hf j => ?_)
  blk_simp
  rw [after2_5, out2_5_eq]
  obtain ⟨b0, b1, b2, b3, b4⟩ := blocks2 V c h i
  idx_vars j
  refine (block_y b0 b1 b2 b3 b4 _ _ _).trans ?_
  simp only [Nat.zero_add]
  refine arr3_blk (f := fun n p o => convR (reluR (y n) s t) m β p o) (win2_5.blk i).view.emb (2 * i) (fun j => ?_) (ix3 j0 j1 j2)
  blk_simp [idx2 i]
  simp [mul_comm]

/-- The array of sums after region 2. -/
theorem sums2 (h : In2 V c y m β s t) :
    Rd3 ((dat2 V c).arrAt 6 cfg2.N : S32x8x256.Idx → EReal)
      (fun n r o => statR (convR (reluR (y n) s t) m β) r o) := by
  refine Rd3.of_eq ((dat2 V c).arrAt_eq_of_covers 6
    (arr3 (a := 32) (b := 8) (c := 256) fun n r o => statR (convR (reluR (y n) s t) m β) r o : S32x8x256.Idx → EReal)
    (by decide +kernel) fun i hf j => ?_)
  blk_simp
  rw [after2_6, out2_6_eq]
  obtain ⟨b0, b1, b2, b3, b4⟩ := blocks2 V c h i
  idx_vars j
  refine (block_st b0 b1 b2 b3 b4 _ _ _).trans ?_
  simp only [Nat.zero_add]
  refine arr3_blk (f := fun n r o => statR (convR (reluR (y n) s t) m β) r o) (win2_6.blk i).view.emb (2 * i) (fun j => ?_)
    (ix3 j0 j1 j2)
  blk_simp [idx2 i]
  simp [mul_comm]

end Cert.Proof
end
-- ==== Proof.ConvFirst.lean ====
/-
  The first convolution kernel: it reads each image channel by channel, stacks it with itself moved one picture row
  up and down along the channel axis, and multiplies the transposed stack by the taps; from there on it is the other
  convolution kernel, with the image taken as it is.
-/
module

public import proofs.«01_k».proof.Proof.ConvArray

@[expose] public section
set_option maxRecDepth 16384
noncomputable section
namespace Cert.Proof
open Idealize.ShloMosaic Idealize.ShloMosaic.TcCoe Idealize.SL.Sem Cert.KernelIdeal Cert.KernelIdeal.Gen

/-- An image stored channel by channel, read as rows of positions. -/
def flatR (x : ℕ → ℕ → ℕ → ℝ) (p i : ℕ) : ℝ := x i (p / 36) (p % 36)

/-- The product of the stacked image with one matrix of taps, as the first kernel takes it. -/
def firstTap (v0 : Vec Ideal S256x36x36 .f32) (w : Vec Ideal S1x768x256 .f32) : FVec Ideal S1296x256 .f32 :=
  matmul dot_S768x1296_S768x256_S1296x256_0_0_1_1_n_n none (k0_pay2 v0)
    (shapeCast S768x256 w shapeCasts_S1x768x256_S768x256 : FVec Ideal S768x256 .f32) (constant S1296x256 .f32 0x00000000#32)

/-- The stack holds real numbers. -/
theorem first_stack_rd {v0 : Vec Ideal S256x36x36 .f32} {x : ℕ → ℕ → ℕ → ℝ} (h : Rd3 v0 x) :
    Rd2 (k0_pay2 v0) (fun k p => stackR (flatR x) p k) := by
  intro k p
  pointwise [k0_pay2]
  simp only [h _ _ _]
  unfold stackR flatR
  split_ifs <;> rfl

/-- The product holds real numbers. -/
theorem first_tap_rd {v0 : Vec Ideal S256x36x36 .f32} {w : Vec Ideal S1x768x256 .f32} {x : ℕ → ℕ → ℕ → ℝ}
    {m : ℕ → ℕ → ℝ} (h : Rd3 v0 x) (hw : Rd3 w fun _ k o => m k o) :
    Rd2 (firstTap v0 w) (tapR (flatR x) m) := by
  intro p o
  pointwise [firstTap]
  simp only [first_stack_rd h _ _, hw _ _ _, ← EReal.coe_mul]
  exact coe_sum_fin fun k => stackR (flatR x) p k * m k o

/-- The first image's slab, by the other kernel's closing step. -/
theorem first_slab (v0 : Vec Ideal S256x36x36 .f32) (w0 w1 w2 : Vec Ideal S1x768x256 .f32) (b : Vec Ideal S1x256 .f32) :
    k0_pay9 (k0_pay4 v0 w0 w1) k0_pay5 (k0_pay6 v0 w2) k0_pay7 b
      = k1_pay12 (firstTap v0 w0) (firstTap v0 w1) (firstTap v0 w2) k1_pay8 k1_pay9 (k1_pay10 (F := Ideal)) b := rfl
/-- The first image's sums. -/
theorem first_stat (v0 : Vec Ideal S256x36x36 .f32) (w0 w1 w2 : Vec Ideal S1x768x256 .f32) (b : Vec Ideal S1x256 .f32) :
    k0_pay10 (k0_pay4 v0 w0 w1) k0_pay5 (k0_pay6 v0 w2) k0_pay7 b
      = k1_pay13 (firstTap v0 w0) (firstTap v0 w1) (firstTap v0 w2) k1_pay8 k1_pay9 (k1_pay10 (F := Ideal)) b := rfl
/-- The second image's slab. -/
theorem second_slab (v0 : Vec Ideal S256x36x36 .f32) (w0 w1 w2 : Vec Ideal S1x768x256 .f32) (b : Vec Ideal S1x256 .f32) :
    k0_pay14 (k0_pay11 v0) (k0_pay12 v0 w0) w1 w2 b
      = k1_pay12 (firstTap v0 w0) (firstTap v0 w1) (firstTap v0 w2) k1_pay8 k1_pay9 (k1_pay10 (F := Ideal)) b := rfl
/-- The second image's sums. -/
theorem second_stat (v0 : Vec Ideal S256x36x36 .f32) (w0 w1 w2 : Vec Ideal S1x768x256 .f32) (b : Vec Ideal S1x256 .f32) :
    k0_pay1 (k0_pay15 (k0_pay11 v0) (k0_pay12 v0 w0) w1 w2 b) (k0_pay16 (k0_pay11 v0) (k0_pay12 v0 w0) w1 w2 b)
      = k1_pay13 (firstTap v0 w0) (firstTap v0 w1) (firstTap v0 w2) k1_pay8 k1_pay9 (k1_pay10 (F := Ideal)) b := rfl

/-- One image of the block, convolved. -/
theorem first_image {x0 : Vec Ideal S512x36x36 .f32} {x1 : Vec Ideal S3x768x256 .f32} {x2 : Vec Ideal S1x256 .f32}
    {x : ℕ → ℕ → ℕ → ℝ} {β : ℕ → ℝ} {m : ℕ → ℕ → ℕ → ℝ}
    (h0 : Rd3 x0 x) (h1 : Rd3 x1 m) (h2 : Rd2 x2 fun _ o => β o) (q : ℕ) (inb) :
    Rd2 (k1_pay11
      (firstTap (View.ld (Val := Elt Ideal) (e' := .f32) x0 (Rect.unit (s := S512x36x36) ![q, 0, 0] S256x36x36.size inb)) (View.ld x1 r0_1))
      (firstTap (View.ld (Val := Elt Ideal) (e' := .f32) x0 (Rect.unit (s := S512x36x36) ![q, 0, 0] S256x36x36.size inb)) (View.ld x1 r0_2))
      (firstTap (View.ld (Val := Elt Ideal) (e' := .f32) x0 (Rect.unit (s := S512x36x36) ![q, 0, 0] S256x36x36.size inb)) (View.ld x1 r0_3))
      k1_pay8 k1_pay9 (k1_pay10 (F := Ideal)) (View.ld x2 r0_4)) (convR (flatR fun i h w => x (q + i) h w) m β) := by
  have hx := (h0.ld q 0 0 inb).congr (g := fun i h w => x (q + i) h w) fun i hi j _ k _ => by
    simp only [Nat.zero_add]
  have hm : ∀ d : ℕ, ∀ inb, Rd3 (View.ld (Val := Elt Ideal) (e' := .f32) x1
      (Rect.unit (s := S3x768x256) ![d, 0, 0] S1x768x256.size inb)) fun _ k o => m d k o := fun d inb =>
    (h1.ld d 0 0 inb).congr fun i hi j _ k _ => by
      obtain rfl : i = 0 := by omega
      simp only [Nat.add_zero, Nat.zero_add]
  exact acc_rd (first_tap_rd hx (hm 0 _)) (first_tap_rd hx (hm 1 _)) (first_tap_rd hx (hm 2 _))
    ((h2.ld 0 0 inb_S1x256_S1x256_0_0).congr fun i _ k _ => by rw [Nat.zero_add])

/-- What region 0 stores in the slabs of images. -/
theorem first_block_y {x0 : Vec Ideal S512x36x36 .f32} {x1 : Vec Ideal S3x768x256 .f32} {x2 : Vec Ideal S1x256 .f32}
    {x : ℕ → ℕ → ℕ → ℝ} {β : ℕ → ℝ} {m : ℕ → ℕ → ℕ → ℝ}
    (r0 : Rd3 x0 x) (r1 : Rd3 x1 m) (r2 : Rd2 x2 fun _ o => β o) :
    Rd3 (out0_3 x0 x1 x2) (fun n p o => convR (flatR fun i h w => x (256 * n + i) h w) m β p o) := by
  intro n p o
  unfold_out out0_3
  canon_tiles x h
  · rw [second_slab]
    idx_vars x
    rw [slab_rd (first_image r0 r1 r2 256 inb_S512x36x36_S256x36x36_256_0_0) _ _ _]
    rw [show (n : ℕ) = 1 by omega, h1, h2]
  · rw [first_slab]
    idx_vars x
    rw [slab_rd (first_image r0 r1 r2 0 inb_S512x36x36_S256x36x36_0_0_0) _ _ _]
    rw [show (n : ℕ) = 0 by omega, h1, h2]

/-- What region 0 stores in the slabs of sums. -/
theorem first_block_st {x0 : Vec Ideal S512x36x36 .f32} {x1 : Vec Ideal S3x768x256 .f32} {x2 : Vec Ideal S1x256 .f32}
    {x : ℕ → ℕ → ℕ → ℝ} {β : ℕ → ℝ} {m : ℕ → ℕ → ℕ → ℝ}
    (r0 : Rd3 x0 x) (r1 : Rd3 x1 m) (r2 : Rd2 x2 fun _ o => β o) :
    Rd3 (out0_4 x0 x1 x2) (fun n p o => statR (convR (flatR fun i h w => x (256 * n + i) h w) m β) p o) := by
  intro n p o
  unfold_out out0_4
  canon_tiles x h
  · rw [second_stat]
    idx_vars x
    rw [stat_rd (first_image r0 r1 r2 256 inb_S512x36x36_S256x36x36_256_0_0) _ _ _]
    rw [show (n : ℕ) = 1 by omega, h1, h2]
  · rw [first_stat]
    idx_vars x
    rw [stat_rd (first_image r0 r1 r2 0 inb_S512x36x36_S256x36x36_0_0_0) _ _ _]
    rw [show (n : ℕ) = 0 by omega, h1, h2]

variable (V : (c : Dev nD) → (b : Ref sig .tc) → Buf (Elt Ideal) ((c : Thread nD τ).loc b)) (c : Dev nD)
variable {x : ℕ → ℕ → ℕ → ℝ} {β : ℕ → ℝ} {m : ℕ → ℕ → ℕ → ℝ}

/-- Region 0's index maps: the images and their sums advance with the grid point, the rest stays. -/
theorem idx0 : ∀ t : Fin grid0.N,
    (win0_0.index t 0 = t ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = t ∧ win0_3.index t 1 = 0 ∧ win0_3.index t 2 = 0)
    ∧ (win0_4.index t 0 = t ∧ win0_4.index t 1 = 0 ∧ win0_4.index t 2 = 0) := by decide +kernel

/-- The arrays region 0 reads hold real numbers: the images' channels `x`, taps `m`, biases `β`. -/
structure In0 (x : ℕ → ℕ → ℕ → ℝ) (m : ℕ → ℕ → ℕ → ℝ) (β : ℕ → ℝ) : Prop where
  img : Rd3 (V c main_v0) x
  taps : Rd3 (V c main_v2) m
  bias : Rd2 (V c main_v7) fun _ o => β o

/-- The blocks region 0 reads at a grid point. -/
theorem blocks0 (h : In0 V c x m β) (i : Fin cfg0.N) :
    Rd3 (iblk0 V c 0 i : Vec Ideal S512x36x36 .f32) (fun n p k => x (512 * i + n) p k)
    ∧ Rd3 (iblk0 V c 1 i : Vec Ideal S3x768x256 .f32) (fun n p k => m (0 + n) p k)
    ∧ Rd2 (iblk0 V c 2 i : Vec Ideal S1x256 .f32) (fun _ o => β o) := by
  refine ⟨h.img.blk (win0_0.blk i).view.emb (512 * i) fun j => ?_, h.taps.blk (win0_1.blk i).view.emb 0 fun j => ?_,
    h.bias.blk (win0_2.blk i).view.emb fun j => ?_⟩
  all_goals
    blk_simp [idx0 i]
    simp [mul_comm]

/-- The channels of the `n`-th image of a point's block, among all. -/
theorem chan (i n k : ℕ) : 512 * i + (256 * n + k) = 256 * (2 * i + n) + k := by ring

/-- The array of images after region 0. -/
theorem img0 (h : In0 V c x m β) :
    Rd3 ((dat0 V c).arrAt 3 cfg0.N : S32x1296x256.Idx → EReal) (fun n p o => convR (flatR fun i h w => x (256 * n + i) h w) m β p o) := by
  refine Rd3.of_eq ((dat0 V c).arrAt_eq_of_covers 3
    (arr3 (a := 32) (b := 1296) (c := 256) fun n p o => convR (flatR fun i h w => x (256 * n + i) h w) m β p o : S32x1296x256.Idx → EReal)
    (by decide +kernel) fun i hf j => ?_)
  blk_simp
  rw [after0_3]
  obtain ⟨b0, b1, b2⟩ := blocks0 V c h i
  idx_vars j
  refine (first_block_y b0 b1 b2 _ _ _).trans ?_
  simp only [Nat.zero_add, chan]
  refine arr3_blk (f := fun n p o => convR (flatR fun i h w => x (256 * n + i) h w) m β p o) (win0_3.blk i).view.emb (2 * i) (fun j => ?_) (ix3 j0 j1 j2)
  blk_simp [idx0 i]
  simp [mul_comm]

/-- The array of sums after region 0. -/
theorem sums0 (h : In0 V c x m β) :
    Rd3 ((dat0 V c).arrAt 4 cfg0.N : S32x8x256.Idx → EReal) (fun n r o => statR (convR (flatR fun i h w => x (256 * n + i) h w) m β) r o) := by
  refine Rd3.of_eq ((dat0 V c).arrAt_eq_of_covers 4
    (arr3 (a := 32) (b := 8) (c := 256) fun n r o => statR (convR (flatR fun i h w => x (256 * n + i) h w) m β) r o : S32x8x256.Idx → EReal)
    (by decide +kernel) fun i hf j => ?_)
  blk_simp
  rw [after0_4]
  obtain ⟨b0, b1, b2⟩ := blocks0 V c h i
  idx_vars j
  refine (first_block_st b0 b1 b2 _ _ _).trans ?_
  simp only [Nat.zero_add, chan]
  refine arr3_blk (f := fun n r o => statR (convR (flatR fun i h w => x (256 * n + i) h w) m β) r o) (win0_4.blk i).view.emb (2 * i) (fun j => ?_) (ix3 j0 j1 j2)
  blk_simp [idx0 i]
  simp [mul_comm]

end Cert.Proof
end
-- ==== Proof.Stats.lean ====
/-
  The batch statistics of a convolution's thirty-two images: the mean, the variance by both of its formulas (mean of
  squares less square of mean; mean squared distance from the mean), and the per-channel scale and shift which the
  normalisation amounts to. Then the same over extended reals that hold real numbers.
-/
module

public import proofs.«01_k».proof.Proof.Basics

@[expose] public section
noncomputable section
namespace Cert.Proof
open Idealize.ShloMosaic

/-- The small constant added to a variance. -/
def epsR : ℝ := 10995116 / 2 ^ 40

/-- It is positive. -/
theorem epsR_pos : 0 < epsR := by unfold epsR; positivity

/-- The printed constant is that number. -/
theorem eps_bits : Ideal.ofBits .f32 0x3727C5AC#32 = (epsR : EReal) := by
  simp [Ideal.ofBits, Ideal.ieee, epsR, -EReal.coe_mul]; norm_num

/-- The printed number of positions in all images is 32·36·36. -/
theorem count_bits : Ideal.ofBits .f32 0x47220000#32 = ((41472 : ℝ) : EReal) := by
  simp [Ideal.ofBits, Ideal.ieee, -EReal.coe_mul]; norm_num

/-- A quotient of real numbers with a nonzero divisor is real. -/
theorem div_real (a : ℝ) {b : ℝ} (hb : b ≠ 0) : Ideal.div (a : EReal) (b : EReal) = ((a / b : ℝ) : EReal) := by
  rw [Ideal.div_coe hb, ← EReal.coe_mul]; congr 1; ring

/-- The square root of a nonnegative real number is real. -/
theorem sqrt_real {a : ℝ} (ha : 0 ≤ a) : Ideal.sqrt (a : EReal) = ((Real.sqrt a : ℝ) : EReal) := by
  rw [Ideal.sqrt_coe, if_neg (not_lt.mpr ha)]

/-- The sum over all positions of all images. -/
def totR (f : ℕ → ℕ → ℝ) : ℝ := ∑ n ∈ Finset.range 32, ∑ p ∈ Finset.range 1296, f n p

/-- The mean over all positions. -/
def meanR (f : ℕ → ℕ → ℝ) : ℝ := totR f / 41472
/-- The mean of the squares less the square of the mean. -/
def varR (f : ℕ → ℕ → ℝ) : ℝ := totR (fun n p => f n p * f n p) / 41472 - meanR f * meanR f

/-- The variance is the mean squared distance from the mean. -/
theorem varR_eq (f : ℕ → ℕ → ℝ) :
    varR f = totR (fun n p => (f n p - meanR f) * (f n p - meanR f)) / 41472 := by
  have h : totR (fun n p => (f n p - meanR f) * (f n p - meanR f))
      = totR (fun n p => f n p * f n p) - 2 * meanR f * totR f + 41472 * (meanR f * meanR f) := by
    have e : ∀ n p, (f n p - meanR f) * (f n p - meanR f) = f n p * f n p - 2 * meanR f * f n p + meanR f * meanR f :=
      fun n p => by ring
    unfold totR
    simp only [e, Finset.sum_add_distrib, Finset.sum_sub_distrib, ← Finset.mul_sum, Finset.sum_const, Finset.card_range,
      nsmul_eq_mul]
    ring
  rw [h, varR, show totR f = 41472 * meanR f by unfold meanR; ring]
  ring

/-- The variance is not negative. -/
theorem varR_nonneg (f : ℕ → ℕ → ℝ) : 0 ≤ varR f := by
  rw [varR_eq]
  exact div_nonneg (Finset.sum_nonneg fun n _ => Finset.sum_nonneg fun p _ => mul_self_nonneg _) (by norm_num)

/-- The standard deviation, with the small constant inside the root. -/
def sdR (f : ℕ → ℕ → ℝ) : ℝ := Real.sqrt (varR f + epsR)

/-- The standard deviation is positive. -/
theorem sdR_pos (f : ℕ → ℕ → ℝ) : 0 < sdR f := Real.sqrt_pos.mpr (add_pos_of_nonneg_of_pos (varR_nonneg f) epsR_pos)

/-- The scale of the normalisation. -/
def scaleR (f : ℕ → ℕ → ℝ) (g : ℝ) : ℝ := g / sdR f
/-- The shift of the normalisation. -/
def shiftR (f : ℕ → ℕ → ℝ) (g b : ℝ) : ℝ := b - meanR f * scaleR f g

/-- The normalised value, scaled by `g` and shifted by `b`, is the value times the scale plus the shift. -/
theorem scale_shift (f : ℕ → ℕ → ℝ) (g b y : ℝ) :
    y * scaleR f g + shiftR f g b = (y - meanR f) / sdR f * g + b := by
  unfold shiftR scaleR
  ring

/-- The printed scale, from the sums and the sums of squares of the images. -/
theorem scale_real (f : ℕ → ℕ → ℝ) (g : ℝ) :
    Ideal.div (g : EReal)
      (Ideal.sqrt
        (Ideal.div ((totR fun n p => f n p * f n p : ℝ) : EReal) (Ideal.ofBits .f32 1193410560#32)
          - Ideal.div ((totR f : ℝ) : EReal) (Ideal.ofBits .f32 1193410560#32)
            * Ideal.div ((totR f : ℝ) : EReal) (Ideal.ofBits .f32 1193410560#32)
          + Ideal.ofBits .f32 925353388#32)) = ((scaleR f g : ℝ) : EReal) := by
  rw [show Ideal.ofBits .f32 1193410560#32 = ((41472 : ℝ) : EReal) from count_bits,
    show Ideal.ofBits .f32 925353388#32 = (epsR : EReal) from eps_bits,
    div_real _ (by norm_num), div_real _ (by norm_num), ← EReal.coe_mul, ← EReal.coe_sub, ← EReal.coe_add]
  rw [show totR (fun n p => f n p * f n p) / 41472 - totR f / 41472 * (totR f / 41472) + epsR = varR f + epsR from rfl,
    sqrt_real (add_nonneg (varR_nonneg f) epsR_pos.le)]
  exact div_real _ (sdR_pos f).ne'

/-- The printed mean. -/
theorem mean_real (f : ℕ → ℕ → ℝ) :
    Ideal.div ((totR f : ℝ) : EReal) (Ideal.ofBits .f32 1193410560#32) = ((meanR f : ℝ) : EReal) := by
  rw [show Ideal.ofBits .f32 1193410560#32 = ((41472 : ℝ) : EReal) from count_bits, div_real _ (by norm_num)]
  rfl

end Cert.Proof
end
-- ==== Proof.HostSteps.lean ====
/-
  What the host operations between the kernels compute: the arguments brought into the kernels' layouts, and each
  layer's scale and shift from the sums its convolution kernel stored.
-/
module

public import proofs.«01_k».proof.Proof.ConvFirst
public import proofs.«01_k».proof.Proof.Stats
public import Idealize.ShloMosaic.Lib.StableHlo.ReadAt

@[expose] public section
set_option maxRecDepth 16384
noncomputable section
namespace Cert.Proof
open Idealize.ShloMosaic Idealize.ShloMosaic.TcCoe Idealize.SL.Sem Cert.KernelIdeal Cert.KernelIdeal.Gen
variable (X : Valuation τ sig (Elt Ideal))

/-- The array `v` of five axes holds the real number `f i j k l m` at the index `(i, j, k, l, m)`. -/
def Rd5 {a b c d e : ℕ} (v : (⟨5, ![a, b, c, d, e]⟩ : Shape).Idx → EReal) (f : ℕ → ℕ → ℕ → ℕ → ℕ → ℝ) : Prop :=
  ∀ (i : Fin a) (j : Fin b) (k : Fin c) (l : Fin d) (m : Fin e), v (ix5 i j k l m) = ((f i j k l m : ℝ) : EReal)

/-- The taps as the kernels read them, from the convolution's weights. -/
def tapsR (w : ℕ → ℕ → ℕ → ℕ → ℝ) (d k o : ℕ) : ℝ := w o (k % 256) (k / 256) d

/-- The features, their two leading axes and the channels joined. -/
theorem host0_feat {f : ℕ → ℕ → ℕ → ℕ → ℕ → ℝ} (h : Rd5 (X (Proc.devRef .tc main_arg0)) f) :
    Rd3 (StableHlo.after hostOps0 X (Proc.devRef .tc main_v0)) (fun i y x => f (i / 1024) (i / 256 % 4) (i % 256) y x) := by
  intro i y x
  after_reads_at
  exact h _ _ _ _ _

/-- The first convolution's weights, as three matrices by column of the tap. -/
theorem host0_taps1 {w : ℕ → ℕ → ℕ → ℕ → ℝ} (h : Rd4 (X (Proc.devRef .tc main_arg2)) w) :
    Rd3 (StableHlo.after hostOps0 X (Proc.devRef .tc main_v2)) (tapsR w) := by
  intro d k o
  after_reads_at
  exact h _ _ _ _
/-- The second convolution's weights. -/
theorem host0_taps2 {w : ℕ → ℕ → ℕ → ℕ → ℝ} (h : Rd4 (X (Proc.devRef .tc main_arg6)) w) :
    Rd3 (StableHlo.after hostOps0 X (Proc.devRef .tc main_v4)) (tapsR w) := by
  intro d k o
  after_reads_at
  exact h _ _ _ _
/-- The third convolution's weights. -/
theorem host0_taps3 {w : ℕ → ℕ → ℕ → ℕ → ℝ} (h : Rd4 (X (Proc.devRef .tc main_arg10)) w) :
    Rd3 (StableHlo.after hostOps0 X (Proc.devRef .tc main_v6)) (tapsR w) := by
  intro d k o
  after_reads_at
  exact h _ _ _ _
/-- The first convolution's bias, as a row. -/
theorem host0_bias {b : ℕ → ℝ} (h : Rd1 (X (Proc.devRef .tc main_arg3)) b) :
    Rd2 (StableHlo.after hostOps0 X (Proc.devRef .tc main_v7)) (fun _ o => b o) := by
  intro d o
  after_reads_at
  exact h _

/-- The stored sums, added over the images. -/
theorem sum_rows {v : S32x8x256.Idx → EReal} {f : ℕ → ℕ → ℕ → ℝ} (h : Rd3 v fun n r o => statR (f n) r o) (o : Fin 256) :
    (∑ n, v (ix3 n 0 o)) = ((totR fun n p => f n p o : ℝ) : EReal) := by
  simp only [h _ _ _]
  exact coe_sum_fin fun n => statR (f n) 0 o
/-- The stored sums of squares, added over the images. -/
theorem sum_squares {v : S32x8x256.Idx → EReal} {f : ℕ → ℕ → ℕ → ℝ} (h : Rd3 v fun n r o => statR (f n) r o) (o : Fin 256) :
    (∑ n, v (ix3 n 1 o)) = ((totR fun n p => f n p o * f n p o : ℝ) : EReal) := by
  simp only [h _ _ _]
  exact coe_sum_fin fun n => statR (f n) 1 o

/-- The second convolution's bias, as a row. -/
theorem host1_bias {b : ℕ → ℝ} (h : Rd1 (X (Proc.devRef .tc main_arg7)) b) :
    Rd2 (StableHlo.after hostOps1 X (Proc.devRef .tc main_v27)) (fun _ o => b o) := by
  intro d o
  after_reads_at
  exact h _
/-- The first normalisation's scale, from the first convolution's stored sums. -/
theorem host1_scale {f : ℕ → ℕ → ℕ → ℝ} {g : ℕ → ℝ}
    (hf : Rd3 (X (Proc.devRef .tc main_v8_1) : S32x8x256.Idx → EReal) fun n r o => statR (f n) r o) (hg : Rd1 (X (Proc.devRef .tc main_arg4)) g) :
    Rd2 (StableHlo.after hostOps1 X (Proc.devRef .tc main_v28)) (fun _ o => scaleR (fun n p => f n p o) (g o)) := by
  intro d o
  after_reads_at
  rw [sum_rows hf, sum_squares hf, hg o]
  exact scale_real _ _
/-- The first normalisation's shift. -/
theorem host1_shift {f : ℕ → ℕ → ℕ → ℝ} {g b : ℕ → ℝ}
    (hf : Rd3 (X (Proc.devRef .tc main_v8_1) : S32x8x256.Idx → EReal) fun n r o => statR (f n) r o) (hg : Rd1 (X (Proc.devRef .tc main_arg4)) g)
    (hb : Rd1 (X (Proc.devRef .tc main_arg5)) b) :
    Rd2 (StableHlo.after hostOps1 X (Proc.devRef .tc main_v29)) (fun _ o => shiftR (fun n p => f n p o) (g o) (b o)) := by
  intro d o
  after_reads_at
  rw [sum_rows hf, sum_squares hf, hg o, hb o, scale_real, mean_real, ← EReal.coe_mul, ← EReal.coe_sub]
  rfl

/-- The third convolution's bias, as a row. -/
theorem host2_bias {b : ℕ → ℝ} (h : Rd1 (X (Proc.devRef .tc main_arg11)) b) :
    Rd2 (StableHlo.after hostOps2 X (Proc.devRef .tc main_v49)) (fun _ o => b o) := by
  intro d o
  after_reads_at
  exact h _
/-- The second normalisation's scale, from the second convolution's stored sums. -/
theorem host2_scale {f : ℕ → ℕ → ℕ → ℝ} {g : ℕ → ℝ}
    (hf : Rd3 (X (Proc.devRef .tc main_v30_1) : S32x8x256.Idx → EReal) fun n r o => statR (f n) r o)
    (hg : Rd1 (X (Proc.devRef .tc main_arg8)) g) :
    Rd2 (StableHlo.after hostOps2 X (Proc.devRef .tc main_v50)) (fun _ o => scaleR (fun n p => f n p o) (g o)) := by
  intro d o
  after_reads_at
  rw [sum_rows hf, sum_squares hf, hg o]
  exact scale_real _ _
/-- The second normalisation's shift. -/
theorem host2_shift {f : ℕ → ℕ → ℕ → ℝ} {g b : ℕ → ℝ}
    (hf : Rd3 (X (Proc.devRef .tc main_v30_1) : S32x8x256.Idx → EReal) fun n r o => statR (f n) r o)
    (hg : Rd1 (X (Proc.devRef .tc main_arg8)) g) (hb : Rd1 (X (Proc.devRef .tc main_arg9)) b) :
    Rd2 (StableHlo.after hostOps2 X (Proc.devRef .tc main_v51)) (fun _ o => shiftR (fun n p => f n p o) (g o) (b o)) := by
  intro d o
  after_reads_at
  rw [sum_rows hf, sum_squares hf, hg o, hb o, scale_real, mean_real, ← EReal.coe_mul, ← EReal.coe_sub]
  rfl

/-- The third normalisation's scale, from the third convolution's stored sums. -/
theorem host3_scale {f : ℕ → ℕ → ℕ → ℝ} {g : ℕ → ℝ}
    (hf : Rd3 (X (Proc.devRef .tc main_v52_1) : S32x8x256.Idx → EReal) fun n r o => statR (f n) r o)
    (hg : Rd1 (X (Proc.devRef .tc main_arg12)) g) :
    Rd2 (StableHlo.after hostOps3 X (Proc.devRef .tc main_v72)) (fun _ o => scaleR (fun n p => f n p o) (g o)) := by
  intro d o
  after_reads_at
  rw [sum_rows hf, sum_squares hf, hg o]
  exact scale_real _ _
/-- The third normalisation's shift. -/
theorem host3_shift {f : ℕ → ℕ → ℕ → ℝ} {g b : ℕ → ℝ}
    (hf : Rd3 (X (Proc.devRef .tc main_v52_1) : S32x8x256.Idx → EReal) fun n r o => statR (f n) r o)
    (hg : Rd1 (X (Proc.devRef .tc main_arg12)) g) (hb : Rd1 (X (Proc.devRef .tc main_arg13)) b) :
    Rd2 (StableHlo.after hostOps3 X (Proc.devRef .tc main_v73)) (fun _ o => shiftR (fun n p => f n p o) (g o) (b o)) := by
  intro d o
  after_reads_at
  rw [sum_rows hf, sum_squares hf, hg o, hb o, scale_real, mean_real, ← EReal.coe_mul, ← EReal.coe_sub]
  rfl

/-- The regions of interest, their two leading axes joined. -/
theorem host3_rois {q : ℕ → ℕ → ℕ → ℕ → ℝ} (h : Rd4 (X (Proc.devRef .tc main_arg1)) q) :
    Rd3 (StableHlo.after hostOps3 X (Proc.devRef .tc main_v71)) (fun i j k => q (i / 4) (i % 4) j k) := by
  intro i j k
  after_reads_at
  exact h _ _ _ _

end Cert.Proof
end
-- ==== Proof.HeadBlock.lean ====
/-
  What the last kernel computes: the pooled features times the weights of the fully connected layer, normalised over
  the 512 regions, then scaled, shifted, made positive and summed with the weights of the last layer. The last four
  arrays need not hold real numbers.
-/
module

public import proofs.«01_k».proof.Proof.Stats
public import proofs.«01_k».proof.Proof.Gen.KernelIdeal.Frame

@[expose] public section
set_option maxRecDepth 16384
noncomputable section
namespace Cert.Proof
open Idealize.ShloMosaic Idealize.ShloMosaic.TcCoe Idealize.SL.Sem Cert.KernelIdeal Cert.KernelIdeal.Gen

/-- The printed number of regions, 512. -/
theorem bits512 : Ideal.ofBits .f32 1140850688#32 = ((512 : ℝ) : EReal) := by
  simp [Ideal.ofBits, Ideal.ieee, -EReal.coe_mul]; norm_num

/-- The mean over the regions. -/
def meanH (f : ℕ → ℝ) : ℝ := (∑ r ∈ Finset.range 512, f r) / 512
/-- The mean of the squares less the square of the mean. -/
def varH (f : ℕ → ℝ) : ℝ := (∑ r ∈ Finset.range 512, f r * f r) / 512 - meanH f * meanH f

/-- The variance is the mean squared distance from the mean. -/
theorem varH_eq (f : ℕ → ℝ) : varH f = (∑ r ∈ Finset.range 512, (f r - meanH f) * (f r - meanH f)) / 512 := by
  have e : ∀ r, (f r - meanH f) * (f r - meanH f) = f r * f r - 2 * meanH f * f r + meanH f * meanH f :=
    fun r => by ring
  simp only [e, Finset.sum_add_distrib, Finset.sum_sub_distrib, ← Finset.mul_sum, Finset.sum_const, Finset.card_range,
    nsmul_eq_mul]
  rw [varH, show (∑ r ∈ Finset.range 512, f r) = 512 * meanH f by unfold meanH; ring]
  push_cast
  ring

/-- The variance over the regions is not negative. -/
theorem varH_nonneg (f : ℕ → ℝ) : 0 ≤ varH f := by
  rw [varH_eq]
  exact div_nonneg (Finset.sum_nonneg fun r _ => mul_self_nonneg _) (by norm_num)

/-- The standard deviation over the regions, with the small constant inside the root. -/
def sdH (f : ℕ → ℝ) : ℝ := Real.sqrt (varH f + epsR)
/-- The standard deviation over the regions is positive. -/
theorem sdH_pos (f : ℕ → ℝ) : 0 < sdH f := Real.sqrt_pos.mpr (add_pos_of_nonneg_of_pos (varH_nonneg f) epsR_pos)

/-- The fully connected layer. -/
def fcR (q : ℕ → ℕ → ℝ) (w : ℕ → ℕ → ℝ) (b : ℕ → ℝ) (r o : ℕ) : ℝ := (∑ k ∈ Finset.range 4096, q r k * w k o) + b o

/-- The normalised value. -/
def normH (F : ℕ → ℕ → ℝ) (r o : ℕ) : ℝ := (F r o - meanH fun r => F r o) / sdH fun r => F r o

/-- The last layer's entry for region `r`. -/
def lastE (F : ℕ → ℕ → ℝ) (g b w : Fin 256 → EReal) (c : EReal) (r : ℕ) : EReal :=
  (∑ o : Fin 256, max (((normH F r o : ℝ) : EReal) * g o + b o) 0 * w o) + c

/-- The printed normalised value. -/
theorem norm_real (F : ℕ → ℕ → ℝ) (r o : ℕ) :
    Ideal.div (((F r o : ℝ) : EReal) - Ideal.div ((∑ r ∈ Finset.range 512, F r o : ℝ) : EReal) (Ideal.ofBits .f32 1140850688#32))
      (Ideal.sqrt
        (Ideal.div ((∑ r ∈ Finset.range 512, F r o * F r o : ℝ) : EReal) (Ideal.ofBits .f32 1140850688#32)
          - Ideal.div ((∑ r ∈ Finset.range 512, F r o : ℝ) : EReal) (Ideal.ofBits .f32 1140850688#32)
            * Ideal.div ((∑ r ∈ Finset.range 512, F r o : ℝ) : EReal) (Ideal.ofBits .f32 1140850688#32)
          + Ideal.ofBits .f32 925353388#32)) = ((normH F r o : ℝ) : EReal) := by
  rw [bits512, show Ideal.ofBits .f32 925353388#32 = (epsR : EReal) from eps_bits,
    div_real _ (by norm_num), div_real _ (by norm_num), ← EReal.coe_mul, ← EReal.coe_sub, ← EReal.coe_sub, ← EReal.coe_add]
  rw [show (∑ r ∈ Finset.range 512, F r o * F r o) / 512
      - (∑ r ∈ Finset.range 512, F r o) / 512 * ((∑ r ∈ Finset.range 512, F r o) / 512) + epsR = varH (fun r => F r o) + epsR from rfl,
    sqrt_real (add_nonneg (varH_nonneg _) epsR_pos.le)]
  exact div_real _ (sdH_pos fun r => F r o).ne'

/-- The kernel's value for region `r`. -/
theorem head_pay {v0 : Vec Ideal S512x4096 .f32} {v2 : Vec Ideal S4096x256 .f32} {v5 : Vec Ideal S1x256 .f32}
    (g b : Vec Ideal S1x256 .f32) (w : Vec Ideal S256x1 .f32) (c : Vec Ideal S1x1 .f32)
    {Q W : ℕ → ℕ → ℝ} {B : ℕ → ℝ} (h0 : Rd2 v0 Q) (h2 : Rd2 v2 W) (h5 : Rd2 v5 fun _ o => B o) (r : Fin 512) (z : Fin 1) :
    k4_pay1 (k4_pay2 v0 v2 v5 g b w) c (ix2 r z)
      = lastE (fcR Q W B) (fun o => g (ix2 0 o)) (fun o => b (ix2 0 o)) (fun o => w (ix2 o 0)) (c (ix2 0 0)) r := by
  obtain rfl : z = 0 := Subsingleton.elim _ _
  pointwise [k4_pay1, k4_pay2]
  have e : ∀ (r : Fin 512) (o : Fin 256), (∑ x : Fin 4096, v0 (ix2 r x) * v2 (ix2 x o)) + v5 (ix2 0 o) = ((fcR Q W B r o : ℝ) : EReal) := by
    intro r o
    simp only [h0 _ _, h2 _ _, h5 _ _, ← EReal.coe_mul]
    have s := coe_sum_fin (n := 4096) fun k => Q r k * W k o
    rw [s, ← EReal.coe_add]; rfl
  simp only [e, ← EReal.coe_mul]
  have s1 : ∀ o : Fin 256, (∑ x : Fin 512, ((fcR Q W B x o : ℝ) : EReal)) = _ := fun o => coe_sum_fin (n := 512) fun r => fcR Q W B r o
  have s2 : ∀ o : Fin 256, (∑ x : Fin 512, ((fcR Q W B x o * fcR Q W B x o : ℝ) : EReal)) = _ :=
    fun o => coe_sum_fin (n := 512) fun r => fcR Q W B r o * fcR Q W B r o
  simp only [s1, s2, norm_real]
  rfl

/-- A load of a whole array of two axes. -/
theorem ld2_whole {a b : ℕ} (X : (⟨2, ![a, b]⟩ : Shape).Idx → EReal) (inb) :
    View.ld (Val := Elt Ideal) (e' := .f32) X (Rect.unit (s := ⟨2, ![a, b]⟩) ![0, 0] ![a, b] inb) = X := by
  funext x
  refine View.ld_unit_apply_of (Val := Elt Ideal) (e := .f32) X _ _ inb _ x fun d => ?_
  fin_cases d <;> exact (Nat.zero_add _).symm

/-- The array `v` of two axes holds the extended real `f i j` at the index `(i, j)`. -/
def RdE {a b : ℕ} (v : (⟨2, ![a, b]⟩ : Shape).Idx → EReal) (f : Fin a → Fin b → EReal) : Prop :=
  ∀ (i : Fin a) (j : Fin b), v (ix2 i j) = f i j

/-- The whole of a two-axis array, read as one block. -/
theorem RdE.blk {a b : ℕ} {X : (⟨2, ![a, b]⟩ : Shape).Idx → EReal} {f : Fin a → Fin b → EReal} (h : RdE X f)
    (e : (⟨2, ![a, b]⟩ : Shape).Idx → (⟨2, ![a, b]⟩ : Shape).Idx)
    (he : ∀ j, (e j 0 : ℕ) = j 0 ∧ (e j 1 : ℕ) = j 1) : RdE (fun j => X (e j)) f := by
  intro i j
  obtain ⟨e0, e1⟩ := he (ix2 i j)
  refine Eq.trans (congrArg X (?_ : e (ix2 i j) = ix2 i j)) (h _ _)
  funext d
  fin_cases d
  exacts [Fin.ext e0, Fin.ext e1]

variable (V : (c : Dev nD) → (b : Ref sig .tc) → Buf (Elt Ideal) ((c : Thread nD τ).loc b)) (c : Dev nD)

/-- The last kernel's index maps: every window is one whole array. -/
theorem idx4 : ∀ t : Fin grid4.N,
    (win4_0.index t 0 = 0 ∧ win4_0.index t 1 = 0) ∧ (win4_1.index t 0 = 0 ∧ win4_1.index t 1 = 0)
    ∧ (win4_2.index t 0 = 0 ∧ win4_2.index t 1 = 0) ∧ (win4_3.index t 0 = 0 ∧ win4_3.index t 1 = 0)
    ∧ (win4_4.index t 0 = 0 ∧ win4_4.index t 1 = 0) ∧ (win4_5.index t 0 = 0 ∧ win4_5.index t 1 = 0)
    ∧ (win4_6.index t 0 = 0 ∧ win4_6.index t 1 = 0) ∧ (win4_7.index t 0 = 0 ∧ win4_7.index t 1 = 0) := by decide +kernel

/-- The column that holds `G r` in row `r`. -/
def colE (G : ℕ → EReal) : S512x1.Idx → EReal := fun y => G (y 0)

/-- A block that is the whole column. -/
theorem colE_blk {G : ℕ → EReal} (e : S512x1.Idx → S512x1.Idx) (he : ∀ j, (e j 0 : ℕ) = j 0) (j : S512x1.Idx) :
    G (j 0) = colE G (e j) := by
  unfold colE
  rw [he j]

/-- What the last kernel stores. -/
theorem block_head {x0 : Vec Ideal S512x4096 .f32} {x1 : Vec Ideal S4096x256 .f32} {x2 x3 x4 : Vec Ideal S1x256 .f32}
    {x5 : Vec Ideal S256x1 .f32} {x6 : Vec Ideal S1x1 .f32}
    {Q W : ℕ → ℕ → ℝ} {B : ℕ → ℝ} {g b w : Fin 256 → EReal} {s : EReal} (b0 : Rd2 x0 Q) (b1 : Rd2 x1 W) (b2 : Rd2 x2 fun _ o => B o)
    (b3 : RdE x3 fun _ o => g o) (b4 : RdE x4 fun _ o => b o) (b5 : RdE x5 fun o _ => w o) (b6 : RdE x6 fun _ _ => s)
    (r : Fin 512) (z : Fin 1) :
    out4_7 x0 x1 x2 x3 x4 x5 x6 (ix2 r z) = lastE (fcR Q W B) g b w s r := by
  unfold out4_7
  canon_tiles x h
  idx_vars x
  simp only [r4_0, r4_1, r4_2, r4_3, r4_4, ld2_whole]
  rw [head_pay _ _ _ _ b0 b1 b2]
  have e3 : (fun o => x3 (ix2 0 o)) = g := funext fun o => b3 0 o
  have e4 : (fun o => x4 (ix2 0 o)) = b := funext fun o => b4 0 o
  have e5 : (fun o => x5 (ix2 o 0)) = w := funext fun o => b5 o 0
  rw [e3, e4, e5, b6 0 0]
  congr 1
  omega

set_option maxHeartbeats 1600000 in
/-- The last kernel's result. -/
theorem head {Q W : ℕ → ℕ → ℝ} {B : ℕ → ℝ} {g b w : Fin 256 → EReal} {s : EReal} (hq : Rd2 (V c main_v78) Q) (hw : Rd2 (V c main_v77) W)
    (hb : Rd2 (V c main_v80) fun _ o => B o) (h3 : RdE (V c main_v81) fun _ o => g o)
    (h4 : RdE (V c main_v82) fun _ o => b o) (h5 : RdE (V c main_v79) fun o _ => w o)
    (h6 : RdE (V c main_v83) fun _ _ => s) (r : Fin 512) (z : Fin 1) :
    ((dat4 V c).arrAt 7 cfg4.N : S512x1.Idx → EReal) (ix2 r z) = lastE (fcR Q W B) g b w s r := by
  have key : ((dat4 V c).arrAt 7 cfg4.N : S512x1.Idx → EReal) = colE (lastE (fcR Q W B) g b w s) := by
    refine (dat4 V c).arrAt_eq_of_covers 7 (colE (lastE (fcR Q W B) g b w s) : S512x1.Idx → EReal) (by decide +kernel) fun i hf j => ?_
    blk_simp
    rw [after4_7]
    have b0 : Rd2 (iblk4 V c 0 i : Vec Ideal S512x4096 .f32) Q :=
      hq.blk (win4_0.blk i).view.emb fun j => by blk_simp [idx4 i]; simp
    have b1 : Rd2 (iblk4 V c 1 i : Vec Ideal S4096x256 .f32) W :=
      hw.blk (win4_1.blk i).view.emb fun j => by blk_simp [idx4 i]; simp
    have b2 : Rd2 (iblk4 V c 2 i : Vec Ideal S1x256 .f32) fun _ o => B o :=
      hb.blk (win4_2.blk i).view.emb fun j => by blk_simp [idx4 i]; simp
    have b3 : RdE (iblk4 V c 3 i : Vec Ideal S1x256 .f32) fun _ o => g o :=
      h3.blk (win4_3.blk i).view.emb fun j => by blk_simp [idx4 i]; simp
    have b4 : RdE (iblk4 V c 4 i : Vec Ideal S1x256 .f32) fun _ o => b o :=
      h4.blk (win4_4.blk i).view.emb fun j => by blk_simp [idx4 i]; simp
    have b5 : RdE (iblk4 V c 5 i : Vec Ideal S256x1 .f32) fun o _ => w o :=
      h5.blk (win4_5.blk i).view.emb fun j => by blk_simp [idx4 i]; simp
    have b6 : RdE (iblk4 V c 6 i : Vec Ideal S1x1 .f32) fun _ _ => s :=
      h6.blk (win4_6.blk i).view.emb fun j => by blk_simp [idx4 i]; simp
    idx_vars j
    refine (block_head b0 b1 b2 b3 b4 b5 b6 j0 j1).trans ?_
    refine colE_blk (G := lastE (fcR Q W B) g b w s) (win4_7.blk i).view.emb (fun j => ?_) (ix2 j0 j1)
    blk_simp [idx4 i]
  exact congrFun key (ix2 r z)

end Cert.Proof
end
-- ==== Proof.HostHead.lean ====
/-
  The host operations before the last kernel (the pooled features, one row a region, and the weights of the fully
  connected layer in the pooled features' order) and after it.
-/
module

public import proofs.«01_k».proof.Proof.HostSteps
public import proofs.«01_k».proof.Proof.HeadBlock

@[expose] public section
set_option maxRecDepth 16384
noncomputable section
namespace Cert.Proof
open Idealize.ShloMosaic Idealize.ShloMosaic.TcCoe Idealize.SL.Sem Cert.KernelIdeal Cert.KernelIdeal.Gen
variable (X : Valuation τ sig (Elt Ideal))

/-- The fully connected layer's weights in the pooled features' order: bins along `x`, bins along `y`, channels. -/
def fcW (w : ℕ → ℕ → ℝ) (k o : ℕ) : ℝ := w o (k % 256 * 16 + k / 256 % 4 * 4 + k / 1024)

/-- The pooled features, their images and regions joined. -/
theorem host4_pooled {f : ℕ → ℕ → ℕ → ℝ} (h : Rd3 (X (Proc.devRef .tc main_v74) : S32x16x4096.Idx → EReal) f) :
    Rd2 (StableHlo.after hostOps4 X (Proc.devRef .tc main_v78)) (fun r k => f (r / 16) (r % 16) k) := by
  intro r k
  after_reads_at
  exact h _ _ _
/-- The fully connected layer's weights, reordered as the pooled features are. -/
theorem host4_weights {w : ℕ → ℕ → ℝ} (h : Rd2 (X (Proc.devRef .tc main_arg14)) w) :
    Rd2 (StableHlo.after hostOps4 X (Proc.devRef .tc main_v77)) (fcW w) := by
  intro k o
  after_reads_at
  refine (h _ _).trans ?_
  unfold fcW
  congr 2
/-- The fully connected layer's bias, as a row. -/
theorem host4_bias {b : ℕ → ℝ} (h : Rd1 (X (Proc.devRef .tc main_arg15)) b) :
    Rd2 (StableHlo.after hostOps4 X (Proc.devRef .tc main_v80)) (fun _ o => b o) := by
  intro d o
  after_reads_at
  exact h _
/-- The last normalisation's scale, as a row. -/
theorem host4_g : RdE (StableHlo.after hostOps4 X (Proc.devRef .tc main_v81)) (fun _ (o : Fin 256) => (X (Proc.devRef .tc main_arg16) : S256.Idx → EReal) (ix1 o)) := by
  intro d o
  after_reads_at
/-- The last normalisation's shift, as a row. -/
theorem host4_b : RdE (StableHlo.after hostOps4 X (Proc.devRef .tc main_v82)) (fun _ (o : Fin 256) => (X (Proc.devRef .tc main_arg17) : S256.Idx → EReal) (ix1 o)) := by
  intro d o
  after_reads_at
/-- The last layer's weights, as a column. -/
theorem host4_w : RdE (StableHlo.after hostOps4 X (Proc.devRef .tc main_v79)) (fun (o : Fin 256) _ => (X (Proc.devRef .tc main_arg18) : S1x256.Idx → EReal) (ix2 0 o)) := by
  intro d o
  obtain rfl : o = 0 := Subsingleton.elim _ _
  after_reads_at
/-- The last layer's bias, as a single entry. -/
theorem host4_c : RdE (StableHlo.after hostOps4 X (Proc.devRef .tc main_v83)) (fun _ _ => (X (Proc.devRef .tc main_arg19) : S1.Idx → EReal) (ix1 0)) := by
  intro d o
  obtain rfl : o = 0 := Subsingleton.elim _ _
  obtain rfl : d = 0 := Subsingleton.elim _ _
  after_reads_at

/-- The result: the last kernel's column, laid out by the regions' three axes. -/
theorem host5_result {G : ℕ → EReal} (h : ∀ (r : Fin 512) (z : Fin 1), (X (Proc.devRef .tc main_v84) : S512x1.Idx → EReal) (ix2 r z) = G r)
    (i : Fin 8) (j : Fin 4) (k : Fin 16) :
    (StableHlo.after hostOps5 X (Proc.devRef .tc main_v85) : S8x4x16.Idx → EReal) (ix3 i j k) = G (i * 64 + j * 16 + k) := by
  after_reads_at
  exact h _ _

end Cert.Proof
end
-- ==== Proof.PoolWeights.lean ====
/-
  The weights of precise region-of-interest pooling, as the pooling kernel computes them. The bilinear interpolant of
  a row of 36 values, integrated from 0 to a coordinate `X`, is a weighted sum of the values; a bin's integral is the
  difference of two such sums in each direction, divided by the bin's area.
-/
module

public import proofs.«01_k».proof.Proof.ConvBlock
public import proofs.«01_k».proof.Proof.Stats

@[expose] public section
set_option maxRecDepth 16384
noncomputable section
namespace Cert.Proof
open Idealize.ShloMosaic Idealize.SL.Sem Cert.KernelIdeal Cert.KernelIdeal.Gen

/-- The `j`-th corner coordinate of a region that begins at `x` and is `w` long, held inside the map. -/
def cornerR (x w : ℝ) (j : ℕ) : ℝ := min 35 (max 0 (x * 20 + w * 5 * j))

/-- The cell a coordinate lies in. -/
def cellN (X : ℝ) : ℕ := min 34 ⌊X⌋₊

/-- The integral's weight of the cell's second value -/
def hiR (X : ℝ) : ℝ := 1 / 2 * (X - cellN X) * (X - cellN X)
/-- and of its first value. -/
def loR (X : ℝ) : ℝ := X - cellN X - hiR X

/-- The weight of value `u` in the integral from 0 to `X`: the trapezoids below the cell, and the part inside the cell. -/
def weightR (X : ℝ) (u : ℕ) : ℝ :=
  (if 0 < cellN X then
      if u < cellN X then (if u = 0 then 1 / 2 else 1) else if u = cellN X then 1 / 2 else 0
    else 0)
    + (if u = cellN X then loR X else 0) + (if u = cellN X + 1 then hiR X else 0)

/-- The weight of value `u` in the integral over the `j`-th bin. -/
def binR (x w : ℝ) (j u : ℕ) : ℝ := weightR (cornerR x w (j + 1)) u - weightR (cornerR x w j) u

/-- The smallest area a bin may have. -/
def minArea : ℝ := 11258999 / 2 ^ 50
/-- It is positive. -/
theorem minArea_pos : 0 < minArea := by unfold minArea; positivity
/-- It is the printed constant. -/
theorem minArea_bits : Ideal.ofBits .f32 841731191#32 = (minArea : EReal) := by
  simp [Ideal.ofBits, Ideal.ieee, minArea, -EReal.coe_mul]; norm_num

/-- One over the bin's area, or zero for a bin without area. -/
def invArea (a : ℝ) : ℝ := if minArea < a then 1 / max a minArea else 0

/-- The weight of position `p` of the map for bin `(jx, iy)` of a region `q` (first coordinates, then lengths). -/
def wtR (q : ℕ → ℝ) (jx iy p : ℕ) : ℝ :=
  binR (q 0) (q 2) jx (p % 36) * invArea (q 2 * 5 * (q 3 * 5)) * binR (q 1) (q 3) iy (p / 36)

/-- The printed 35, the last coordinate of the map. -/
theorem bits35 : Ideal.ofBits .f32 1108082688#32 = ((35 : ℝ) : EReal) := by
  simp [Ideal.ofBits, Ideal.ieee, -EReal.coe_mul]; norm_num
/-- The printed 34, the last cell of the map. -/
theorem bits34 : Ideal.ofBits .f32 1107820544#32 = ((34 : ℝ) : EReal) := by
  simp [Ideal.ofBits, Ideal.ieee, -EReal.coe_mul]; norm_num
/-- The printed 20, the scale of a first coordinate. -/
theorem bits20 : Ideal.ofBits .f32 1101004800#32 = ((20 : ℝ) : EReal) := by
  simp [Ideal.ofBits, Ideal.ieee, -EReal.coe_mul]; norm_num
/-- The printed 5, the scale of a length. -/
theorem bits5 : Ideal.ofBits .f32 1084227584#32 = ((5 : ℝ) : EReal) := by
  simp [Ideal.ofBits, Ideal.ieee, -EReal.coe_mul]; norm_num
/-- The printed one half. -/
theorem bits_half : Ideal.ofBits .f32 1056964608#32 = ((1 / 2 : ℝ) : EReal) := by
  simp [Ideal.ofBits, Ideal.ieee, -EReal.coe_mul]; norm_num

/-- A small natural number, kept in a word and made a real. -/
theorem sitofp_nat {n : ℕ} (h : n < 2 ^ 31) : (FloatOps.sitofp (F := Ideal) FTy.f32 (BitVec.ofNat 32 n)) = ((n : ℝ) : EReal) := by
  show (((BitVec.ofNat 32 n).toInt : ℝ) : EReal) = _
  have e : (BitVec.ofNat 32 n).toNat = n := by rw [BitVec.toNat_ofNat, Nat.mod_eq_of_lt (by omega)]
  rw [BitVec.toInt_eq_toNat_of_lt (by rw [e]; omega), e]
  norm_cast

/-- The printed corner coordinates along `x` -/
theorem corners_x {v : Vec Ideal S2x16x4 .f32} {q : ℕ → ℕ → ℕ → ℝ} (h : Rd3 v q) :
    Rd2 (k3_pay7 v) fun r j => cornerR (q (r / 16) (r % 16) 0) (q (r / 16) (r % 16) 2) j := by
  intro r j
  pointwise [k3_pay7, k3_pay6, k3_pay4, k3_pay3]
  rw [h _ _ _, h _ _ _, sitofp_nat (by omega), bits35, bits20, bits5]
  simp only [← EReal.coe_mul, ← EReal.coe_add, ← EReal.coe_zero, coe_max_real, coe_min_real]
  rfl
/-- and along `y`. -/
theorem corners_y {v : Vec Ideal S2x16x4 .f32} {q : ℕ → ℕ → ℕ → ℝ} (h : Rd3 v q) :
    Rd2 (k3_pay8 v) fun r j => cornerR (q (r / 16) (r % 16) 1) (q (r / 16) (r % 16) 3) j := by
  intro r j
  pointwise [k3_pay8, k3_pay6, k3_pay5, k3_pay3]
  rw [h _ _ _, h _ _ _, sitofp_nat (by omega), bits35, bits20, bits5]
  simp only [← EReal.coe_mul, ← EReal.coe_add, ← EReal.coe_zero, coe_max_real, coe_min_real]
  rfl

/-- The floor of a real number, held between 0 and 34, is the cell. -/
theorem clip_floor (X : ℝ) : min (34 : ℝ) (max 0 ((⌊X⌋ : ℤ) : ℝ)) = (cellN X : ℝ) := by
  unfold cellN
  rw [Nat.cast_min, ← Int.floor_toNat]
  have : ((⌊X⌋.toNat : ℕ) : ℝ) = max 0 ((⌊X⌋ : ℤ) : ℝ) := by
    have h := Int.toNat_eq_max ⌊X⌋
    have h' : ((⌊X⌋.toNat : ℤ) : ℝ) = ((max ⌊X⌋ 0 : ℤ) : ℝ) := by rw [h]
    rw [Int.cast_natCast, Int.cast_max, Int.cast_zero, max_comm] at h'
    exact h'
  rw [this]; norm_num

/-- The printed cells. -/
theorem cells {v : FVec Ideal S32x5 .f32} {X : ℕ → ℕ → ℝ} (h : Rd2 v X) : Rd2 (k3_pay14 v) fun r j => (cellN (X r j) : ℝ) := by
  intro r j
  pointwise [k3_pay14]
  rw [h _ _, bits34, Ideal.liftRound_coe, ← EReal.coe_zero, coe_max_real, coe_min_real, clip_floor]

/-- The printed weights of the second value of the cell. -/
def hiK (v : FVec Ideal S32x5 .f32) : FVec Ideal S32x5 .f32 := mulf (mulf (k3_pay16 (F := Ideal)) (k3_pay15 v)) (k3_pay15 v)

/-- They are the second values' weights of the corners. -/
theorem his {v : FVec Ideal S32x5 .f32} {X : ℕ → ℕ → ℝ} (h : Rd2 v X) : Rd2 (hiK v) fun r j => hiR (X r j) := by
  intro r j
  pointwise [hiK, k3_pay16, k3_pay15]
  simp only [cells h _ _, h _ _, bits_half, ← EReal.coe_mul, ← EReal.coe_sub]
  rfl

/-- The printed weights of the first value of the cell. -/
theorem los {v : FVec Ideal S32x5 .f32} {X : ℕ → ℕ → ℝ} (h : Rd2 v X) :
    Rd2 (subf (k3_pay15 v) (hiK v)) fun r j => loR (X r j) := by
  intro r j
  pointwise [k3_pay15]
  simp only [his h _ _, cells h _ _, h _ _, ← EReal.coe_sub]
  rfl

/-- The printed weights. -/
theorem weights {k p1 p0 : FVec Ideal S32x5 .f32} {X : ℕ → ℕ → ℝ} (hk : Rd2 k fun r j => (cellN (X r j) : ℝ))
    (h1 : Rd2 p1 fun r j => hiR (X r j)) (h0 : Rd2 p0 fun r j => loR (X r j)) :
    Rd3 (k3_pay13 k p1 p0) fun r j u => weightR (X r j) u := by
  intro r j u
  pointwise [k3_pay13]
  rw [hk _ _, h1 _ _, h0 _ _, sitofp_nat (by omega), bits_half, ← EReal.coe_one, ← EReal.coe_zero, ← EReal.coe_add]
  simp only [EReal.coe_lt_coe_iff, EReal.coe_eq_coe_iff, coe_ite_real, ← EReal.coe_add]
  unfold weightR
  norm_cast

/-- The differences of neighbouring weights. -/
theorem bins {w : FVec Ideal S32x5x36 .f32} {W : ℕ → ℕ → ℕ → ℝ} (h : Rd3 w W) :
    Rd3 (k3_pay17 w) fun r j u => W r (j + 1) u - W r j u := by
  intro r j u
  pointwise [k3_pay17]
  simp only [h _ _ _, ← EReal.coe_sub, Nat.zero_add, Nat.add_comm 1]

end Cert.Proof
end
-- ==== Proof.PoolBlock.lean ====
/-
  What the pooling kernel computes from the two images of a block, and what its result array holds once it has run
  over its grid: for every region, bin and channel the weighted sum of the image's values.
-/
module

public import proofs.«01_k».proof.Proof.PoolWeights

@[expose] public section
set_option maxRecDepth 16384
noncomputable section
namespace Cert.Proof
open Idealize.ShloMosaic Idealize.ShloMosaic.TcCoe Idealize.SL.Sem Cert.KernelIdeal Cert.KernelIdeal.Gen

/-- The word that tells whether two small numbers are equal, made a real. -/
theorem sitofp_eq {a b : ℕ} (ha : a < 2 ^ 31) (hb : b < 2 ^ 31) :
    (FloatOps.sitofp (F := Ideal) FTy.f32
      (BitVec.setWidth 32 (IntOp.cmpi CmpIPredicate.eq (BitVec.ofNat 32 a) (BitVec.ofNat 32 b))))
      = ((if a = b then 1 else 0 : ℝ) : EReal) := by
  rw [WordCmp.cmpi_eq_ofNat (by omega) (by omega)]
  by_cases h : a = b
  · simp only [h, if_true, decide_true]
    show ((((1#32 : BitVec 32).toInt : ℤ) : ℝ) : EReal) = _
    norm_num
  · simp only [h, if_false, decide_false]
    show ((((0#32 : BitVec 32).toInt : ℤ) : ℝ) : EReal) = _
    norm_num

/-- The printed inverse area. -/
theorem inv_area (a : ℝ) :
    (if Ideal.ofBits FTy.f32 841731191#32 < (a : EReal) then
        Ideal.div 1 (max (a : EReal) (Ideal.ofBits FTy.f32 841731191#32)) else 0) = ((invArea a : ℝ) : EReal) := by
  rw [minArea_bits, coe_max_real, ← EReal.coe_one, div_real _ (lt_max_of_lt_right minArea_pos).ne', coe_ite_zero']
  simp only [EReal.coe_lt_coe_iff]
  rfl

/-- A sum of values, each times whether its number is `n`, is the value of number `n`. -/
theorem pick {m n : ℕ} (h : n < m) (f : ℕ → ℝ) : ∑ u ∈ Finset.range m, f u * (if n = u then 1 else 0) = f n := by
  simp only [mul_ite, mul_one, mul_zero]
  rw [Finset.sum_ite_eq, if_pos (Finset.mem_range.mpr h)]

/-- The weights of all positions of the map: the product of the weights along `x` and along `y`. -/
theorem position_weights {v w : FVec Ideal S32x4x36 .f32} {a : FVec Ideal S32x1 .f32} {V W : ℕ → ℕ → ℕ → ℝ} {A : ℕ → ℝ}
    (hv : Rd3 v V) (hw : Rd3 w W) (ha : Rd2 a fun r _ => A r) :
    Rd2 (k3_pay20 v w a) fun r p =>
      V (r / 16) (r / 4 % 4) (p % 36) * invArea (A (r / 16)) * W (r / 16) (r % 4) (p / 36) := by
  intro r p
  pointwise [k3_pay20]
  simp only [ha _ _, inv_area]
  have hp := p.isLt
  simp only [hv _ _ _, hw _ _ _, Routing.remsi_word .vector (show (p : ℕ) < 2 ^ 31 by omega) (show 0 < 36 by decide) (show 36 < 2 ^ 31 by decide),
    Routing.divsi_word .vector (show (p : ℕ) < 2 ^ 31 by omega) (show 0 < 36 by decide) (show 36 < 2 ^ 31 by decide)]
  have e1 : ∀ x : Fin 36, (FloatOps.sitofp (F := Ideal) FTy.f32
      (BitVec.setWidth 32 (IntOp.cmpi CmpIPredicate.eq (BitVec.ofNat 32 ((p : ℕ) % 36)) (BitVec.ofNat 32 x))))
      = ((if (p : ℕ) % 36 = x then 1 else 0 : ℝ) : EReal) := fun x => sitofp_eq (by omega) (by omega)
  have e2 : ∀ x : Fin 36, (FloatOps.sitofp (F := Ideal) FTy.f32
      (BitVec.setWidth 32 (IntOp.cmpi CmpIPredicate.eq (BitVec.ofNat 32 ((p : ℕ) / 36)) (BitVec.ofNat 32 x))))
      = ((if (p : ℕ) / 36 = x then 1 else 0 : ℝ) : EReal) := fun x => sitofp_eq (by omega) (by omega)
  simp only [e1, e2, ← EReal.coe_mul]
  have s1 := coe_sum_fin (n := 36) fun u => V ((r : ℕ) / 16) ((r : ℕ) / 4 % 4) u * invArea (A ((r : ℕ) / 16)) * (if (p : ℕ) % 36 = u then 1 else 0 : ℝ)
  have s2 := coe_sum_fin (n := 36) fun u => W ((r : ℕ) / 16) ((r : ℕ) % 4) u * (if (p : ℕ) / 36 = u then 1 else 0 : ℝ)
  rw [s1, s2, ← EReal.coe_mul, pick (by omega) fun u => V ((r : ℕ) / 16) ((r : ℕ) / 4 % 4) u * invArea (A ((r : ℕ) / 16)),
    pick (by omega) fun u => W ((r : ℕ) / 16) ((r : ℕ) % 4) u]

/-- The areas of the bins. -/
theorem areas {v : Vec Ideal S2x16x4 .f32} {q : ℕ → ℕ → ℕ → ℝ} (h : Rd3 v q) :
    Rd2 (k3_pay19 (k3_pay4 v) (k3_pay5 v)) fun r _ => q (r / 16) (r % 16) 2 * 5 * (q (r / 16) (r % 16) 3 * 5) := by
  intro r j
  pointwise [k3_pay19, k3_pay4, k3_pay5, k3_pay3]
  rw [h _ _ _, h _ _ _, bits5]
  simp only [← EReal.coe_mul]
  rfl

/-- The weights along `x` are computed by the formula of the weights along `y`. -/
theorem weights_x_eq (v : Vec Ideal S2x16x4 .f32) :
    k3_pay13 (k3_pay9 v) (k3_pay11 v) (k3_pay12 v)
      = k3_pay13 (k3_pay14 (k3_pay7 v)) (hiK (k3_pay7 v)) (subf (k3_pay15 (k3_pay7 v)) (hiK (k3_pay7 v))) := rfl
/-- The differences along `y` are formed as those along `x` are. -/
theorem bins_y_eq (v : FVec Ideal S32x5 .f32) :
    k3_pay18 (k3_pay14 v) (k3_pay15 v) (k3_pay16 (F := Ideal))
      = k3_pay17 (k3_pay13 (k3_pay14 v) (hiK v) (subf (k3_pay15 v) (hiK v))) := rfl

/-- The block's weights. -/
def wtK (v : Vec Ideal S2x16x4 .f32) : FVec Ideal S512x1296 .f32 :=
  k3_pay20 (k3_pay17 (k3_pay13 (k3_pay9 v) (k3_pay11 v) (k3_pay12 v)))
    (k3_pay18 (k3_pay14 (k3_pay8 v)) (k3_pay15 (k3_pay8 v)) (k3_pay16 (F := Ideal))) (k3_pay19 (k3_pay4 v) (k3_pay5 v))

/-- The block's weights, in terms of its regions. -/
theorem block_weights {v : Vec Ideal S2x16x4 .f32} {q : ℕ → ℕ → ℕ → ℝ} (h : Rd3 v q) :
    Rd2 (wtK v) fun r p => wtR (q (r / 256) (r / 16 % 16)) (r / 4 % 4) (r % 4) p := by
  unfold wtK
  rw [weights_x_eq, bins_y_eq]
  refine (position_weights (bins (weights (cells (corners_x h)) (his (corners_x h)) (los (corners_x h))))
    (bins (weights (cells (corners_y h)) (his (corners_y h)) (los (corners_y h)))) (areas h)).congr fun r hr p hp => ?_
  unfold wtR binR
  simp only [Nat.div_div_eq_div_mul]

/-- One pooled entry: channel `k % 256` of the image `y`, summed with the weights of bin `(k / 1024, k / 256 % 4)`. -/
def poolR (y : ℕ → ℕ → ℝ) (s t : ℕ → ℝ) (q : ℕ → ℝ) (k : ℕ) : ℝ :=
  ∑ p ∈ Finset.range 1296, wtR q (k / 1024) (k / 256 % 4) p * reluR y s t p (k % 256)

/-- The first image pooled. -/
theorem pool_first {w : FVec Ideal S512x1296 .f32} {W : ℕ → ℕ → ℝ} (hw : Rd2 w W)
    {x : Vec Ideal S1x1296x256 .f32} {s t : Vec Ideal S1x256 .f32} {y : ℕ → ℕ → ℝ} {σ τ : ℕ → ℝ}
    (hx : Rd3 x fun _ p i => y p i) (hs : Rd2 s fun _ i => σ i) (ht : Rd2 t fun _ i => τ i) :
    Rd3 (k3_pay1 w (k3_pay21 x s t) (Scalar.ofBits (F := Ideal) .f32 0x00000000#32)) fun _ i k =>
      ∑ p ∈ Finset.range 1296, W (i * 16 + k / 256) p * reluR y σ τ p (k % 256) := by
  intro n i k
  obtain rfl : n = 0 := Subsingleton.elim _ _
  pointwise [k3_pay1, k3_pay21]
  simp only [hw _ _, hx _ _ _, hs _ _, ht _ _, ← EReal.coe_mul, ← EReal.coe_add, coe_max_zero]
  exact coe_sum_fin (n := 1296) fun p => W ((i : ℕ) * 16 + (k : ℕ) / 256) p * reluR y σ τ p ((k : ℕ) % 256)

/-- The second image pooled. -/
theorem pool_second {w : FVec Ideal S512x1296 .f32} {W : ℕ → ℕ → ℝ} (hw : Rd2 w W)
    {x : Vec Ideal S1x1296x256 .f32} {s t : Vec Ideal S1x256 .f32} {y : ℕ → ℕ → ℝ} {σ τ : ℕ → ℝ}
    (hx : Rd3 x fun _ p i => y p i) (hs : Rd2 s fun _ i => σ i) (ht : Rd2 t fun _ i => τ i) :
    Rd3 (k3_pay2 w x s t) fun _ i k =>
      ∑ p ∈ Finset.range 1296, W (256 + (i * 16 + k / 256)) p * reluR y σ τ p (k % 256) := by
  intro n i k
  obtain rfl : n = 0 := Subsingleton.elim _ _
  pointwise [k3_pay2]
  simp only [hw _ _, hx _ _ _, hs _ _, ht _ _, ← EReal.coe_mul, ← EReal.coe_add, coe_max_zero]
  exact coe_sum_fin (n := 1296) fun p => W (256 + ((i : ℕ) * 16 + (k : ℕ) / 256)) p * reluR y σ τ p ((k : ℕ) % 256)

/-- A block's result. -/
theorem block_pool {x0 : Vec Ideal S2x1296x256 .f32} {x1 : Vec Ideal S2x16x4 .f32} {x2 x3 : Vec Ideal S1x256 .f32}
    {y : ℕ → ℕ → ℕ → ℝ} {q : ℕ → ℕ → ℕ → ℝ} {s t : ℕ → ℝ}
    (r0 : Rd3 x0 y) (r1 : Rd3 x1 q) (r2 : Rd2 x2 fun _ o => s o) (r3 : Rd2 x3 fun _ o => t o) :
    Rd3 (out3_4 x0 x1 x2 x3) fun n i k => poolR (y n) s t (q n i) k := by
  have hq : Rd3 (View.ld x1 r3_0) q := (r1.ld 0 0 0 inb_S2x16x4_S2x16x4_0_0_0).congr fun _ _ _ _ _ _ => by
    simp only [Nat.zero_add]
  have hw := block_weights hq
  have hs : Rd2 (View.ld x2 r3_2) fun _ o => s o := (r2.ld 0 0 inb_S1x256_S1x256_0_0).congr fun _ _ _ _ => by
    rw [Nat.zero_add]
  have ht : Rd2 (View.ld x3 r3_2) fun _ o => t o := (r3.ld 0 0 inb_S1x256_S1x256_0_0).congr fun _ _ _ _ => by
    rw [Nat.zero_add]
  have hx : ∀ (n : ℕ) inb, Rd3 (View.ld (Val := Elt Ideal) (e' := .f32) x0
      (Rect.unit (s := S2x1296x256) ![n, 0, 0] S1x1296x256.size inb)) fun _ p o => y n p o := fun n inb =>
    (r0.ld n 0 0 inb).congr fun i hi _ _ _ _ => by
      obtain rfl : i = 0 := by omega
      simp only [Nat.zero_add, Nat.add_zero]
  intro n i k
  unfold_out out3_4
  canon_tiles x h
  · idx_vars x
    rw [show (n : ℕ) = 1 by omega, h1, h2]
    refine (pool_second hw (hx 1 inb_S2x1296x256_S1x1296x256_1_0_0) hs ht x0 x1 x2).trans ?_
    unfold poolR
    simp only [show (256 + ((x1 : ℕ) * 16 + (x2 : ℕ) / 256)) / 256 = 1 by omega, show (256 + ((x1 : ℕ) * 16 + (x2 : ℕ) / 256)) / 16 % 16 = x1 by omega,
      show (256 + ((x1 : ℕ) * 16 + (x2 : ℕ) / 256)) / 4 % 4 = (x2 : ℕ) / 1024 by omega,
      show (256 + ((x1 : ℕ) * 16 + (x2 : ℕ) / 256)) % 4 = (x2 : ℕ) / 256 % 4 by omega]
  · idx_vars x
    rw [show (n : ℕ) = 0 by omega, h1, h2]
    refine (pool_first hw (hx 0 inb_S2x1296x256_S1x1296x256_0_0_0) hs ht x0 x1 x2).trans ?_
    unfold poolR
    simp only [show ((x1 : ℕ) * 16 + (x2 : ℕ) / 256) / 256 = 0 by omega, show ((x1 : ℕ) * 16 + (x2 : ℕ) / 256) / 16 % 16 = x1 by omega,
      show ((x1 : ℕ) * 16 + (x2 : ℕ) / 256) / 4 % 4 = (x2 : ℕ) / 1024 by omega,
      show ((x1 : ℕ) * 16 + (x2 : ℕ) / 256) % 4 = (x2 : ℕ) / 256 % 4 by omega]

variable (V : (c : Dev nD) → (b : Ref sig .tc) → Buf (Elt Ideal) ((c : Thread nD τ).loc b)) (c : Dev nD)

/-- The pooling kernel's index maps: the images, regions and results advance with the grid point, the rest stays. -/
theorem idx3 : ∀ t : Fin grid3.N,
    (win3_0.index t 0 = t ∧ win3_0.index t 1 = 0 ∧ win3_0.index t 2 = 0)
    ∧ (win3_1.index t 0 = t ∧ win3_1.index t 1 = 0 ∧ win3_1.index t 2 = 0)
    ∧ (win3_2.index t 0 = 0 ∧ win3_2.index t 1 = 0) ∧ (win3_3.index t 0 = 0 ∧ win3_3.index t 1 = 0)
    ∧ (win3_4.index t 0 = t ∧ win3_4.index t 1 = 0 ∧ win3_4.index t 2 = 0) := by decide +kernel

/-- The pooled array. -/
theorem pooled {y : ℕ → ℕ → ℕ → ℝ} {q : ℕ → ℕ → ℕ → ℝ} {s t : ℕ → ℝ} (himg : Rd3 (V c main_v52_0) y)
    (hq : Rd3 (V c main_v71) q) (hs : Rd2 (V c main_v72) fun _ o => s o) (ht : Rd2 (V c main_v73) fun _ o => t o) :
    Rd3 ((dat3 V c).arrAt 4 cfg3.N : S32x16x4096.Idx → EReal) (fun n i k => poolR (y n) s t (q n i) k) := by
  refine Rd3.of_eq ((dat3 V c).arrAt_eq_of_covers 4
    (arr3 (a := 32) (b := 16) (c := 4096) fun n i k => poolR (y n) s t (q n i) k : S32x16x4096.Idx → EReal)
    (by decide +kernel) fun i hf j => ?_)
  blk_simp
  rw [after3_4]
  have b0 : Rd3 (iblk3 V c 0 i : Vec Ideal S2x1296x256 .f32) (fun n p k => y (2 * i + n) p k) :=
    himg.blk (win3_0.blk i).view.emb (2 * i) fun j => by blk_simp [idx3 i]; simp [mul_comm]
  have b1 : Rd3 (iblk3 V c 1 i : Vec Ideal S2x16x4 .f32) (fun n p k => q (2 * i + n) p k) :=
    hq.blk (win3_1.blk i).view.emb (2 * i) fun j => by blk_simp [idx3 i]; simp [mul_comm]
  have b2 : Rd2 (iblk3 V c 2 i : Vec Ideal S1x256 .f32) (fun _ o => s o) :=
    hs.blk (win3_2.blk i).view.emb fun j => by blk_simp [idx3 i]; simp
  have b3 : Rd2 (iblk3 V c 3 i : Vec Ideal S1x256 .f32) (fun _ o => t o) :=
    ht.blk (win3_3.blk i).view.emb fun j => by blk_simp [idx3 i]; simp
  idx_vars j
  refine (block_pool b0 b1 b2 b3 _ _ _).trans ?_
  refine arr3_blk (f := fun n i k => poolR (y n) s t (q n i) k) (win3_4.blk i).view.emb (2 * i) (fun j => ?_) (ix3 j0 j1 j2)
  blk_simp [idx3 i]
  simp [mul_comm]

end Cert.Proof
end
-- ==== Proof.RealArgs.lean ====
/-
  The real numbers the arguments hold, and the network's layers as functions of them, in the kernels' form.
-/
module

public import proofs.«01_k».proof.Proof.ConvFirst
public import proofs.«01_k».proof.Proof.HostHead
public import proofs.«01_k».proof.Proof.PoolBlock

@[expose] public section
set_option maxRecDepth 16384
noncomputable section
namespace Cert.Proof
open Idealize.ShloMosaic

/-- The real numbers in the first sixteen arguments. -/
structure Reals where
  feat : ℕ → ℕ → ℕ → ℕ → ℕ → ℝ
  rois : ℕ → ℕ → ℕ → ℕ → ℝ
  w1 : ℕ → ℕ → ℕ → ℕ → ℝ
  b1 : ℕ → ℝ
  g1 : ℕ → ℝ
  s1 : ℕ → ℝ
  w2 : ℕ → ℕ → ℕ → ℕ → ℝ
  b2 : ℕ → ℝ
  g2 : ℕ → ℝ
  s2 : ℕ → ℝ
  w3 : ℕ → ℕ → ℕ → ℕ → ℝ
  b3 : ℕ → ℝ
  g3 : ℕ → ℝ
  s3 : ℕ → ℝ
  fw : ℕ → ℕ → ℝ
  fb : ℕ → ℝ

/-- The first sixteen arguments hold the real numbers of `R`. -/
structure Holds (R : Reals) (a0 : (⟨5, ![8, 4, 256, 36, 36]⟩ : Shape).Idx → EReal) (a1 : (⟨4, ![8, 4, 16, 4]⟩ : Shape).Idx → EReal)
    (a2 : (⟨4, ![256, 256, 3, 3]⟩ : Shape).Idx → EReal) (a3 a4 a5 : (⟨1, ![256]⟩ : Shape).Idx → EReal)
    (a6 : (⟨4, ![256, 256, 3, 3]⟩ : Shape).Idx → EReal) (a7 a8 a9 : (⟨1, ![256]⟩ : Shape).Idx → EReal)
    (a10 : (⟨4, ![256, 256, 3, 3]⟩ : Shape).Idx → EReal) (a11 a12 a13 : (⟨1, ![256]⟩ : Shape).Idx → EReal)
    (a14 : (⟨2, ![256, 4096]⟩ : Shape).Idx → EReal) (a15 : (⟨1, ![256]⟩ : Shape).Idx → EReal) : Prop where
  feat : Rd5 a0 R.feat
  rois : Rd4 a1 R.rois
  w1 : Rd4 a2 R.w1
  b1 : Rd1 a3 R.b1
  g1 : Rd1 a4 R.g1
  s1 : Rd1 a5 R.s1
  w2 : Rd4 a6 R.w2
  b2 : Rd1 a7 R.b2
  g2 : Rd1 a8 R.g2
  s2 : Rd1 a9 R.s2
  w3 : Rd4 a10 R.w3
  b3 : Rd1 a11 R.b3
  g3 : Rd1 a12 R.g3
  s3 : Rd1 a13 R.s3
  fw : Rd2 a14 R.fw
  fb : Rd1 a15 R.fb

/-- The first convolution: image `n`, position `p`, channel `o`. -/
def firstR (x : ℕ → ℕ → ℕ → ℕ → ℕ → ℝ) (w : ℕ → ℕ → ℕ → ℕ → ℝ) (b : ℕ → ℝ) (n p o : ℕ) : ℝ :=
  convR (flatR fun i h v => x ((256 * n + i) / 1024) ((256 * n + i) / 256 % 4) ((256 * n + i) % 256) h v) (tapsR w) b p o

/-- The normalisation's scales of a layer's images. -/
def scalesR (y : ℕ → ℕ → ℕ → ℝ) (g : ℕ → ℝ) (i : ℕ) : ℝ := scaleR (fun n p => y n p i) (g i)
/-- The normalisation's shifts of a layer's images. -/
def shiftsR (y : ℕ → ℕ → ℕ → ℝ) (g s : ℕ → ℝ) (i : ℕ) : ℝ := shiftR (fun n p => y n p i) (g i) (s i)

/-- A later convolution, of the normalised, positive images of the layer before. -/
def nextR (y : ℕ → ℕ → ℕ → ℝ) (g s : ℕ → ℝ) (w : ℕ → ℕ → ℕ → ℕ → ℝ) (b : ℕ → ℝ) (n p o : ℕ) : ℝ :=
  convR (reluR (y n) (scalesR y g) (shiftsR y g s)) (tapsR w) b p o

namespace Reals
variable (R : Reals)
/-- The first convolution. -/
def y1 : ℕ → ℕ → ℕ → ℝ := firstR R.feat R.w1 R.b1
/-- The second convolution. -/
def y2 : ℕ → ℕ → ℕ → ℝ := nextR R.y1 R.g1 R.s1 R.w2 R.b2
/-- The third convolution. -/
def y3 : ℕ → ℕ → ℕ → ℝ := nextR R.y2 R.g2 R.s2 R.w3 R.b3
/-- The pooled features of region `r`. -/
def pooled (r k : ℕ) : ℝ :=
  poolR (R.y3 (r / 16)) (scalesR R.y3 R.g3) (shiftsR R.y3 R.g3 R.s3) (R.rois (r / 16 / 4) (r / 16 % 4) (r % 16)) k
/-- The fully connected layer. -/
def fc : ℕ → ℕ → ℝ := fcR R.pooled (fcW R.fw) R.fb
end Reals

end Cert.Proof
end
-- ==== Proof.Finite.lean ====
/-
  What the precondition says: every entry of the first sixteen arguments is a real number.
-/
module

public import proofs.«01_k».proof.Proof.RealArgs
public import proofs.«01_k».proof.Proof.Gen.Pre_finite_args
public import Idealize.ShloMosaic.Lib.ReduceAll
public import Idealize.ShloMosaic.Lib.Pointwise

@[expose] public section
set_option maxRecDepth 16384
noncomputable section
namespace Cert.Proof
open Idealize.ShloMosaic Idealize.SL.Sem Cert.Pre_finite_args Cert.Pre_finite_args.Gen

/-- The printed test of one array: every absolute value lies below infinity. -/
def testV {s : Shape} {d : List (Fin s.rank)} (hb : S_.BroadcastsInDim s (![] : Fin 0 → Fin s.rank)) (hr : s.ReducesTo d S_)
    (a : FVec Ideal s .f32) : IVec S_ 1 :=
  Host.reduce IntOp.andi (cmpf .olt (Host.absf a) (broadcastInDim s ![] hb (constant (F := Ideal) S_ .f32 0x7F800000#32)))
    (constantI S_ 1 1#1) hr h_S_

/-- An extended real with absolute value below infinity is a real number. -/
theorem real_of_lt_top {x : EReal} (h : max x (-x) < ⊤) : ∃ r : ℝ, x = (r : EReal) := by
  induction x using EReal.rec with
  | bot => simp at h
  | coe r => exact ⟨r, rfl⟩
  | top => simp at h

/-- An array that passes the test holds real numbers. -/
theorem testV_real {s : Shape} {d : List (Fin s.rank)} {hb : S_.BroadcastsInDim s (![] : Fin 0 → Fin s.rank)} {hr : s.ReducesTo d S_}
    {a : FVec Ideal s .f32} (h : testV hb hr a ix0 = 1#1) (i : s.Idx) : ∃ r : ℝ, (a i : EReal) = (r : EReal) := by
  have hs : Subsingleton S_.Idx := ⟨fun a b => funext fun d => d.elim0⟩
  have e : Ideal.cmp .olt (max (a i : EReal) (-(a i : EReal))) (Ideal.ofBits .f32 0x7F800000#32) = 1#1 :=
    Host.reduce_andi_all _ _ hr h_S_ ix0 h i
  rw [show Ideal.ofBits .f32 0x7F800000#32 = ⊤ by simp [Ideal.ofBits, Ideal.ieee]] at e
  exact real_of_lt_top ((Ideal.cmp_olt_eq_one _ _).1 e)

/-- An array with one axis whose entries are real numbers is read by a function. -/
theorem exists1 {a : ℕ} {v : (⟨1, ![a]⟩ : Shape).Idx → EReal} (h : ∀ i, ∃ r : ℝ, v i = (r : EReal)) : ∃ f, Rd1 v f := by
  choose g hg using h
  refine ⟨fun i => if hi : i < a then g (ix1 ⟨i, hi⟩) else 0, fun i => ?_⟩
  rw [hg]
  dsimp only
  rw [dif_pos i.isLt]
/-- The same with two axes. -/
theorem exists2 {a b : ℕ} {v : (⟨2, ![a, b]⟩ : Shape).Idx → EReal} (h : ∀ i, ∃ r : ℝ, v i = (r : EReal)) : ∃ f, Rd2 v f := by
  choose g hg using h
  refine ⟨fun i j => if hi : i < a ∧ j < b then g (ix2 ⟨i, hi.1⟩ ⟨j, hi.2⟩) else 0, fun i j => ?_⟩
  rw [hg]
  dsimp only
  rw [dif_pos ⟨i.isLt, j.isLt⟩]
/-- The same with four axes. -/
theorem exists4 {a b c d : ℕ} {v : (⟨4, ![a, b, c, d]⟩ : Shape).Idx → EReal} (h : ∀ i, ∃ r : ℝ, v i = (r : EReal)) :
    ∃ f, Rd4 v f := by
  choose g hg using h
  refine ⟨fun i j k l => if hi : i < a ∧ j < b ∧ k < c ∧ l < d then
    g (ix4 ⟨i, hi.1⟩ ⟨j, hi.2.1⟩ ⟨k, hi.2.2.1⟩ ⟨l, hi.2.2.2⟩) else 0, fun i j k l => ?_⟩
  rw [hg]
  dsimp only
  rw [dif_pos ⟨i.isLt, j.isLt, k.isLt, l.isLt⟩]
/-- The same with five axes. -/
theorem exists5 {a b c d e : ℕ} {v : (⟨5, ![a, b, c, d, e]⟩ : Shape).Idx → EReal} (h : ∀ i, ∃ r : ℝ, v i = (r : EReal)) :
    ∃ f, Rd5 v f := by
  choose g hg using h
  refine ⟨fun i j k l m => if hi : i < a ∧ j < b ∧ k < c ∧ l < d ∧ m < e then
    g (ix5 ⟨i, hi.1⟩ ⟨j, hi.2.1⟩ ⟨k, hi.2.2.1⟩ ⟨l, hi.2.2.2.1⟩ ⟨m, hi.2.2.2.2⟩) else 0, fun i j k l m => ?_⟩
  rw [hg]
  dsimp only
  rw [dif_pos ⟨i.isLt, j.isLt, k.isLt, l.isLt, m.isLt⟩]

/-- Two bits whose «and» is 1 are 1. -/
theorem both {x y : IVec S_ 1} (h : andi x y ix0 = 1#1) : x ix0 = 1#1 ∧ y ix0 = 1#1 := by
  have e : IntOp.andi (x ix0) (y ix0) = 1#1 := h
  revert e
  generalize x ix0 = p
  generalize y ix0 = q
  revert p q
  decide

/-- The precondition is the sixteen tests. -/
theorem fn_eq (a0 a1 a2 a3 a4 a5 a6 a7 a8 a9 a10 a11 a12 a13 a14 a15 a16 a17 a18 a19) :
    fn (F := Ideal) a0 a1 a2 a3 a4 a5 a6 a7 a8 a9 a10 a11 a12 a13 a14 a15 a16 a17 a18 a19
      = andi (andi (andi (andi (andi (andi (andi (andi (andi (andi (andi (andi (andi (andi (andi (andi (constantI S_ 1 1#1)
          (testV bcast_S_S8x4x256x36x36 reducesTo_S8x4x256x36x36_S_d0_1_2_3_4 a0))
          (testV bcast_S_S8x4x16x4 reducesTo_S8x4x16x4_S_d0_1_2_3 a1))
          (testV bcast_S_S256x256x3x3 reducesTo_S256x256x3x3_S_d0_1_2_3 a2))
          (testV bcast_S_S256 reducesTo_S256_S_d0 a3)) (testV bcast_S_S256 reducesTo_S256_S_d0 a4))
          (testV bcast_S_S256 reducesTo_S256_S_d0 a5))
          (testV bcast_S_S256x256x3x3 reducesTo_S256x256x3x3_S_d0_1_2_3 a6))
          (testV bcast_S_S256 reducesTo_S256_S_d0 a7)) (testV bcast_S_S256 reducesTo_S256_S_d0 a8))
          (testV bcast_S_S256 reducesTo_S256_S_d0 a9))
          (testV bcast_S_S256x256x3x3 reducesTo_S256x256x3x3_S_d0_1_2_3 a10))
          (testV bcast_S_S256 reducesTo_S256_S_d0 a11)) (testV bcast_S_S256 reducesTo_S256_S_d0 a12))
          (testV bcast_S_S256 reducesTo_S256_S_d0 a13))
          (testV bcast_S_S256x4096 reducesTo_S256x4096_S_d0_1 a14)) (testV bcast_S_S256 reducesTo_S256_S_d0 a15) := rfl

/-- Under the precondition the first sixteen arguments hold real numbers. -/
theorem holds_of_finite {a0 a1 a2 a3 a4 a5 a6 a7 a8 a9 a10 a11 a12 a13 a14 a15 a16 a17 a18 a19}
    (h : fn (F := Ideal) a0 a1 a2 a3 a4 a5 a6 a7 a8 a9 a10 a11 a12 a13 a14 a15 a16 a17 a18 a19 = fun _ => 1#1) :
    ∃ R : Reals, Holds R a0 a1 a2 a3 a4 a5 a6 a7 a8 a9 a10 a11 a12 a13 a14 a15 := by
  rw [fn_eq] at h
  obtain ⟨h, h15⟩ := both (congrFun h ix0)
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  obtain ⟨-, h0⟩ := both h
  obtain ⟨feat, e0⟩ := exists5 (testV_real h0)
  obtain ⟨rois, e1⟩ := exists4 (testV_real h1)
  obtain ⟨w1, e2⟩ := exists4 (testV_real h2)
  obtain ⟨b1, e3⟩ := exists1 (testV_real h3)
  obtain ⟨g1, e4⟩ := exists1 (testV_real h4)
  obtain ⟨s1, e5⟩ := exists1 (testV_real h5)
  obtain ⟨w2, e6⟩ := exists4 (testV_real h6)
  obtain ⟨b2, e7⟩ := exists1 (testV_real h7)
  obtain ⟨g2, e8⟩ := exists1 (testV_real h8)
  obtain ⟨s2, e9⟩ := exists1 (testV_real h9)
  obtain ⟨w3, e10⟩ := exists4 (testV_real h10)
  obtain ⟨b3, e11⟩ := exists1 (testV_real h11)
  obtain ⟨g3, e12⟩ := exists1 (testV_real h12)
  obtain ⟨s3, e13⟩ := exists1 (testV_real h13)
  obtain ⟨fw, e14⟩ := exists2 (testV_real h14)
  obtain ⟨fb, e15⟩ := exists1 (testV_real h15)
  exact ⟨⟨feat, rois, w1, b1, g1, s1, w2, b2, g2, s2, w3, b3, g3, s3, fw, fb⟩,
    ⟨e0, e1, e2, e3, e4, e5, e6, e7, e8, e9, e10, e11, e12, e13, e14, e15⟩⟩

end Cert.Proof
end
-- ==== Proof.KernelValue.lean ====
/-
  The kernel's result: the five kernels and the host operations between them, one after another.
-/
module

public import proofs.«01_k».proof.Proof.ConvArray
public import proofs.«01_k».proof.Proof.RealArgs

@[expose] public section
set_option maxRecDepth 16384
noncomputable section
namespace Cert.Proof
open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The kernel's memory holds the real numbers of `R`. -/
abbrev HoldsK (R : Reals) : Prop :=
  Holds R (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

variable {m c} {R : Reals}

/-- An argument's contents before a stretch of host operations, from the launch. -/
theorem Rd1.of {a : ℕ} {v w : (⟨1, ![a]⟩ : Shape).Idx → EReal} {f : ℕ → ℝ} (h : Rd1 w f) (e : v = w) : Rd1 v f := e ▸ h
/-- The same with two axes. -/
theorem Rd2.of {a b : ℕ} {v w : (⟨2, ![a, b]⟩ : Shape).Idx → EReal} {f : ℕ → ℕ → ℝ} (h : Rd2 w f) (e : v = w) : Rd2 v f := e ▸ h
/-- The same with three axes. -/
theorem Rd3.of {a b d : ℕ} {v w : (⟨3, ![a, b, d]⟩ : Shape).Idx → EReal} {f : ℕ → ℕ → ℕ → ℝ} (h : Rd3 w f) (e : v = w) : Rd3 v f := e ▸ h
/-- The same with four axes. -/
theorem Rd4.of {a b d k : ℕ} {v w : (⟨4, ![a, b, d, k]⟩ : Shape).Idx → EReal} {f : ℕ → ℕ → ℕ → ℕ → ℝ} (h : Rd4 w f) (e : v = w) : Rd4 v f := e ▸ h

/-- The first convolution's inputs. -/
theorem in0 (h : HoldsK m c R) : In0 (V1 m ρ) c (fun i y x => R.feat (i / 1024) (i / 256 % 4) (i % 256) y x) (tapsR R.w1) R.b1 where
  img := host0_feat (W0 m ρ c) h.feat
  taps := host0_taps1 (W0 m ρ c) h.w1
  bias := host0_bias (W0 m ρ c) h.b1

/-- After the first convolution. -/
theorem out0 (h : HoldsK m c R) :
    Rd3 (W2 m ρ c (Proc.devRef .tc main_v8_0) : S32x1296x256.Idx → EReal) R.y1
    ∧ Rd3 (W2 m ρ c (Proc.devRef .tc main_v8_1) : S32x8x256.Idx → EReal) fun n r o => statR (R.y1 n) r o :=
  ⟨(img0 (V1 m ρ) c (in0 ρ h)).of (W2_arr m ρ c 3), (sums0 (V1 m ρ) c (in0 ρ h)).of (W2_arr m ρ c 4)⟩

/-- The second convolution's inputs. -/
theorem in1 (h : HoldsK m c R) :
    In1 (V3 m ρ) c R.y1 (tapsR R.w2) R.b2 (scalesR R.y1 R.g1) (shiftsR R.y1 R.g1 R.s1) where
  img := (out0 ρ h).1.of (W3_of m ρ c main_v8_0 (by decide))
  taps := (host0_taps2 (W0 m ρ c) h.w2).of ((W3_of m ρ c main_v4 (by decide)).trans (W2_of m ρ c main_v4 (by decide)))
  bias := host1_bias (W2 m ρ c) (h.b2.of (W2_args m ρ c main_arg7 (by decide)))
  scale := host1_scale (W2 m ρ c) (out0 ρ h).2 (h.g1.of (W2_args m ρ c main_arg4 (by decide)))
  shift := host1_shift (W2 m ρ c) (out0 ρ h).2 (h.g1.of (W2_args m ρ c main_arg4 (by decide)))
    (h.s1.of (W2_args m ρ c main_arg5 (by decide)))

/-- After the second convolution. -/
theorem out1 (h : HoldsK m c R) :
    Rd3 (W4 m ρ c (Proc.devRef .tc main_v30_0) : S32x1296x256.Idx → EReal) R.y2
    ∧ Rd3 (W4 m ρ c (Proc.devRef .tc main_v30_1) : S32x8x256.Idx → EReal) fun n r o => statR (R.y2 n) r o :=
  ⟨(img1 (V3 m ρ) c (in1 ρ h)).of (W4_arr m ρ c 5), (sums1 (V3 m ρ) c (in1 ρ h)).of (W4_arr m ρ c 6)⟩

/-- The third convolution's inputs. -/
theorem in2 (h : HoldsK m c R) :
    In2 (V5 m ρ) c R.y2 (tapsR R.w3) R.b3 (scalesR R.y2 R.g2) (shiftsR R.y2 R.g2 R.s2) where
  img := (out1 ρ h).1.of (W5_of m ρ c main_v30_0 (by decide))
  taps := (host0_taps3 (W0 m ρ c) h.w3).of ((W5_of m ρ c main_v6 (by decide)).trans ((W4_of m ρ c main_v6 (by decide)).trans
    ((W3_of m ρ c main_v6 (by decide)).trans (W2_of m ρ c main_v6 (by decide)))))
  bias := host2_bias (W4 m ρ c) (h.b3.of (W4_args m ρ c main_arg11 (by decide)))
  scale := host2_scale (W4 m ρ c) (out1 ρ h).2 (h.g2.of (W4_args m ρ c main_arg8 (by decide)))
  shift := host2_shift (W4 m ρ c) (out1 ρ h).2 (h.g2.of (W4_args m ρ c main_arg8 (by decide)))
    (h.s2.of (W4_args m ρ c main_arg9 (by decide)))

/-- After the third convolution. -/
theorem out2 (h : HoldsK m c R) :
    Rd3 (W6 m ρ c (Proc.devRef .tc main_v52_0) : S32x1296x256.Idx → EReal) R.y3
    ∧ Rd3 (W6 m ρ c (Proc.devRef .tc main_v52_1) : S32x8x256.Idx → EReal) fun n r o => statR (R.y3 n) r o :=
  ⟨(img2 (V5 m ρ) c (in2 ρ h)).of (W6_arr m ρ c 5), (sums2 (V5 m ρ) c (in2 ρ h)).of (W6_arr m ρ c 6)⟩

/-- After the pooling. -/
theorem out3 (h : HoldsK m c R) :
    Rd3 (W8 m ρ c (Proc.devRef .tc main_v74) : S32x16x4096.Idx → EReal) fun n i k =>
      poolR (R.y3 n) (scalesR R.y3 R.g3) (shiftsR R.y3 R.g3 R.s3) (R.rois (n / 4) (n % 4) i) k :=
  (pooled (V7 m ρ) c (y := R.y3) (q := fun n i j => R.rois (n / 4) (n % 4) i j) ((out2 ρ h).1.of (W7_of m ρ c main_v52_0 (by decide)))
    (host3_rois (W6 m ρ c) (h.rois.of (W6_args m ρ c main_arg1 (by decide))))
    (host3_scale (W6 m ρ c) (out2 ρ h).2 (h.g3.of (W6_args m ρ c main_arg12 (by decide))))
    (host3_shift (W6 m ρ c) (out2 ρ h).2 (h.g3.of (W6_args m ρ c main_arg12 (by decide)))
      (h.s3.of (W6_args m ρ c main_arg13 (by decide))))).of (W8_arr m ρ c 4)

/-- The kernel's result. -/
theorem kernel_result (h : HoldsK m c R) (i : Fin 8) (j : Fin 4) (k : Fin 16) :
    (W11 m ρ c (Proc.devRef .tc main_v85) : S8x4x16.Idx → EReal) (ix3 i j k)
      = lastE R.fc (fun o => (m ((c : Thread nD τ).loc main_arg16) : S256.Idx → EReal) (ix1 o))
          (fun o => (m ((c : Thread nD τ).loc main_arg17) : S256.Idx → EReal) (ix1 o))
          (fun o => (m ((c : Thread nD τ).loc main_arg18) : S1x256.Idx → EReal) (ix2 0 o))
          ((m ((c : Thread nD τ).loc main_arg19) : S1.Idx → EReal) (ix1 0)) (i * 64 + j * 16 + k) := by
  refine host5_result (W10 m ρ c) (G := lastE R.fc _ _ _ _) (fun r z => ?_) i j k
  refine (congrFun (W10_arr m ρ c 7) (ix2 r z)).trans ?_
  have h3 := host4_g (W8 m ρ c)
  have h4 := host4_b (W8 m ρ c)
  have h5 := host4_w (W8 m ρ c)
  have h6 := host4_c (W8 m ρ c)
  rw [W8_args m ρ c main_arg16 (by decide)] at h3
  rw [W8_args m ρ c main_arg17 (by decide)] at h4
  rw [W8_args m ρ c main_arg18 (by decide)] at h5
  rw [W8_args m ρ c main_arg19 (by decide)] at h6
  exact head (V9 m ρ) c (host4_pooled (W8 m ρ c) (out3 ρ h))
    (host4_weights (W8 m ρ c) (h.fw.of (W8_args m ρ c main_arg14 (by decide))))
    (host4_bias (W8 m ρ c) (h.fb.of (W8_args m ρ c main_arg15 (by decide)))) h3 h4 h5 h6 r z

end Cert.Proof
end
-- ==== Proof.KernelRun.lean ====
/-
  The kernel's run: every execution ends with the result at what the segments, run one after another from the launch
  memory, leave there, and with the arguments as launched.
-/
module

public import proofs.«01_k».proof.Proof.KernelValue

@[expose] public section
set_option maxRecDepth 16384
noncomputable section
namespace Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The machine's resources. -/
local notation "𝕄" => MT nD τ sig Unit (Elt Ideal) ℕ (UR sig nD τ) ℕ

variable (m : (ℓ : Loc nD τ sig) → Buf (Elt Ideal) ℓ) (ρ : Dev nD → PrngReg)

/-- No argument is a scoped buffer. -/
theorem args_unscoped : ∀ a ∈ argRefs, ¬ (Proc.devRef .tc a : DevRef τ sig).isScoped :=
  ListAll.forall_mem_of_all_decide (by decide +kernel)

set_option backward.isDefEq.respectTransparency.types false in
/-- The kernel's result and its arguments after a run. -/
theorem kernel_run : θ_run defs (onTc (τ := τ) (main (F := Ideal))) ⟨m, fun _ => 0, ρ⟩ (fun r => ∀ c : Dev nD,
      r.2.mem ((c.tc : Thread nD τ).loc main_v85) = W11 m ρ c (Proc.devRef .tc main_v85)
      ∧ ∀ a ∈ argRefs, r.2.mem ((c.tc : Thread nD τ).loc a) = m ((c.tc : Thread nD τ).loc a)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz c => ⟨h c _ (mem_uc main_v85 (by decide)), fun a ha =>
      (h c _ (mem_uc a (args_unscoped a ha))).trans (W11_args m ρ c a ha)⟩)

end Cert.Proof
end
-- ==== Proof.RefRun.lean ====
/-
  The reference's run: it ends with its result array holding the value read stage by stage.
-/
module

public import proofs.«01_k».proof.Proof.Gen.ReferenceIdeal
public import proofs.«01_k».proof.Proof.Gen.ReferenceIdeal.Run
public import proofs.«01_k».proof.Proof.Gen.ReferenceIdeal.Read

@[expose] public section
set_option maxRecDepth 16384
noncomputable section
namespace Cert.Proof
open Idealize.ShloMosaic Idealize.SL.Sem Cert.ReferenceIdeal Cert.ReferenceIdeal.Gen Cert.ReferenceIdeal.Read

variable (m : (ℓ : Loc nD τ sig) → Buf (Elt Ideal) ℓ)

/-- The reference's result, from a memory's arguments on one device. -/
abbrev refValue (c : Dev nD) : Buf (Elt Ideal) ((c.tc : Thread nD τ).loc main_v677) :=
  val_main_v677 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16))
    (m ((c.tc : Thread nD τ).loc main_arg17)) (m ((c.tc : Thread nD τ).loc main_arg18)) (m ((c.tc : Thread nD τ).loc main_arg19))

/-- A run that ends with every device's result at `v` may say so through the run's own statement. -/
theorem reference_run (ρ : Dev nD → PrngReg) (v : (c : Dev nD) → Buf (Elt Ideal) ((c.tc : Thread nD τ).loc main_v677))
    (hv : ∀ c, refValue m c = v c) :
    θ_run defs (onTc (τ := τ) (main (F := Ideal))) ⟨m, fun _ => 0, ρ⟩ (fun r => ∀ c : Dev nD,
      r.2.mem ((c.tc : Thread nD τ).loc main_v677) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono
    (fun _ h c => ⟨(h c).1.trans ((val_main_v677_eq (F := Ideal) (StableHlo.launchContents m c)).trans (hv c)), (h c).2⟩)
    (Cert.ReferenceIdeal.Value.run (F := Ideal) m ρ)

end Cert.Proof
end
-- ==== Proof.RefConv.lean ====
/-
  The reference's convolution: pad the image by one on each side, and add the nine taps' products.
-/
module

public import proofs.«01_k».proof.Proof.Gen.ReferenceIdeal.Read
public import proofs.«01_k».proof.Proof.RealArgs

@[expose] public section
set_option maxRecDepth 16384
noncomputable section
namespace Cert.Proof
open Idealize.ShloMosaic Idealize.SL.Sem Cert.ReferenceIdeal Cert.ReferenceIdeal.Gen Cert.ReferenceIdeal.Read
open Finset (range)

/-- The images the reference works on, one per step. -/
abbrev Imgs := FVec Ideal S32x256x36x36 .f32

/-- The images `x` hold the real numbers `a n p i`: image `n`, pixel `p` in row order, channel `i`. -/
def RdI (x : Imgs) (a : ℕ → ℕ → ℕ → ℝ) : Prop :=
  ∀ (n : Fin 32) (i : Fin 256) (h v : Fin 36), x (ix4 n i h v) = ((a n (36 * h + v) i : ℝ) : EReal)

/-- The images with a border of zeros. -/
def padV (x : Imgs) : FVec Ideal S32x256x38x38 .f32 :=
  pad S32x256x38x38 ![0, 0, 1, 1] ![0, 0, 1, 1] ![0, 0, 0, 0] x (val_main_call0_v0 (F := Ideal))
    pads_S32x256x36x36_S32x256x38x38_000_000_110_110 h_S_

/-- An image with a border of zeros, at row `h` and column `v`. -/
def padR (a : ℕ → ℕ → ℝ) (i h v : ℕ) : ℝ :=
  if (1 ≤ h ∧ h - 1 < 36) ∧ 1 ≤ v ∧ v - 1 < 36 then a (36 * (h - 1) + (v - 1)) i else 0

/-- The padded images are padded real images. -/
theorem padV_rd {x : Imgs} {a : ℕ → ℕ → ℕ → ℝ} (hx : RdI x a) : Rd4 (padV x) fun n i h v => padR (a n) i h v := by
  intro n i h v
  pointwise [padV, val_main_call0_v0, val_main_c]
  unfold padR
  split_ifs with hc
  · exact hx _ _ _ _
  · show (((0#32 : BitVec 32).toInt : ℝ) : EReal) = _
    simp

/-- One tap's product, from the shifted images and the tap's weights. -/
def tapV (p : Imgs) (w : FVec Ideal S256x256x1x1 .f32) : Imgs :=
  transpose S32x256x36x36 [0, 3, 1, 2]
    (Host.dotGeneral dot_S32x256x36x36_S256x256_S32x36x36x256_1_1_023_0_n_n none p
      (shapeCast S256x256 w shapeCasts_S256x256x1x1_S256x256) : FVec Ideal S32x36x36x256 .f32)
    transposes_S32x36x36x256_S32x256x36x36_0_3_1_2

/-- The nine taps' products added up, from zeros. -/
def tapsV (p : FVec Ideal S32x256x38x38 .f32) (w : FVec Ideal S256x256x3x3 .f32) : Imgs :=
  addf (addf (addf (addf (addf (addf (addf (addf (addf (broadcastInDim S32x256x36x36 ![] bcast_S_S32x256x36x36 (val_main_cst (F := Ideal)) : Imgs)
    (tapV (extractStridedSlice S32x256x36x36 ![0, 0, 0, 0] p slices_S32x256x38x38_S32x256x36x36_0_0_0_0)
      (extractStridedSlice S256x256x1x1 ![0, 0, 0, 0] w slices_S256x256x3x3_S256x256x1x1_0_0_0_0)))
    (tapV (extractStridedSlice S32x256x36x36 ![0, 0, 0, 1] p slices_S32x256x38x38_S32x256x36x36_0_0_0_1)
      (extractStridedSlice S256x256x1x1 ![0, 0, 0, 1] w slices_S256x256x3x3_S256x256x1x1_0_0_0_1)))
    (tapV (extractStridedSlice S32x256x36x36 ![0, 0, 0, 2] p slices_S32x256x38x38_S32x256x36x36_0_0_0_2)
      (extractStridedSlice S256x256x1x1 ![0, 0, 0, 2] w slices_S256x256x3x3_S256x256x1x1_0_0_0_2)))
    (tapV (extractStridedSlice S32x256x36x36 ![0, 0, 1, 0] p slices_S32x256x38x38_S32x256x36x36_0_0_1_0)
      (extractStridedSlice S256x256x1x1 ![0, 0, 1, 0] w slices_S256x256x3x3_S256x256x1x1_0_0_1_0)))
    (tapV (extractStridedSlice S32x256x36x36 ![0, 0, 1, 1] p slices_S32x256x38x38_S32x256x36x36_0_0_1_1)
      (extractStridedSlice S256x256x1x1 ![0, 0, 1, 1] w slices_S256x256x3x3_S256x256x1x1_0_0_1_1)))
    (tapV (extractStridedSlice S32x256x36x36 ![0, 0, 1, 2] p slices_S32x256x38x38_S32x256x36x36_0_0_1_2)
      (extractStridedSlice S256x256x1x1 ![0, 0, 1, 2] w slices_S256x256x3x3_S256x256x1x1_0_0_1_2)))
    (tapV (extractStridedSlice S32x256x36x36 ![0, 0, 2, 0] p slices_S32x256x38x38_S32x256x36x36_0_0_2_0)
      (extractStridedSlice S256x256x1x1 ![0, 0, 2, 0] w slices_S256x256x3x3_S256x256x1x1_0_0_2_0)))
    (tapV (extractStridedSlice S32x256x36x36 ![0, 0, 2, 1] p slices_S32x256x38x38_S32x256x36x36_0_0_2_1)
      (extractStridedSlice S256x256x1x1 ![0, 0, 2, 1] w slices_S256x256x3x3_S256x256x1x1_0_0_2_1)))
    (tapV (extractStridedSlice S32x256x36x36 ![0, 0, 2, 2] p slices_S32x256x38x38_S32x256x36x36_0_0_2_2)
      (extractStridedSlice S256x256x1x1 ![0, 0, 2, 2] w slices_S256x256x3x3_S256x256x1x1_0_0_2_2))

/-- A channel vector spread over the images. -/
def chanV (b : FVec Ideal S256 .f32) : Imgs :=
  broadcastInDim S32x256x36x36 ![0, 1, 2, 3] bcast_S1x256x1x1_S32x256x36x36_0_1_2_3
    (broadcastInDim S1x256x1x1 ![1] bcast_S256_S1x256x1x1_1 b : FVec Ideal S1x256x1x1 .f32)

/-- The convolution of the images with the weights `w`, plus the bias. -/
def convV (x : Imgs) (w : FVec Ideal S256x256x3x3 .f32) (b : FVec Ideal S256 .f32) : Imgs :=
  addf (tapsV (padV x) w) (chanV b)

/-- One tap of the convolution on real numbers. -/
def cellR (a : ℕ → ℕ → ℝ) (w : ℕ → ℕ → ℕ → ℕ → ℝ) (o h v dy dx : ℕ) : ℝ :=
  ∑ i ∈ range 256, padR a i (dy + h) (dx + v) * w o i dy dx

/-- The products of one row of taps, at the pixel `p` the row's middle is multiplied by. -/
def rowR (a : ℕ → ℕ → ℝ) (w : ℕ → ℕ → ℕ → ℕ → ℝ) (dx p o dy : ℕ) : ℝ :=
  ∑ i ∈ range 256, (if dy = 0 then (if p < 36 then 0 else a (p - 36) i) else if dy = 1 then a p i
    else if p < 1260 then a (36 + p) i else 0) * w o i dy dx

/-- The stacked product is the sum of its three rows of taps. -/
theorem tapR_rows (a : ℕ → ℕ → ℝ) (w : ℕ → ℕ → ℕ → ℕ → ℝ) (d p o : ℕ) :
    tapR a (tapsR w d) p o = rowR a w d p o 0 + rowR a w d p o 1 + rowR a w d p o 2 := by
  unfold tapR rowR tapsR
  rw [show (768 : ℕ) = 256 + 256 + 256 by norm_num, Finset.sum_range_add, Finset.sum_range_add]
  congr 1

/-- A tap in column `dx` is the row of taps at the neighbouring pixel, or nothing at the image's edge. -/
theorem cell_row (a : ℕ → ℕ → ℝ) (w : ℕ → ℕ → ℕ → ℕ → ℝ) {o h v dy dx : ℕ} (hh : h < 36) (hv : v < 36) (hy : dy < 3) :
    cellR a w o h v dy dx
      = if 1 ≤ dx + v ∧ dx + v - 1 < 36 then rowR a w dx (36 * h + (dx + v - 1)) o dy else 0 := by
  unfold cellR rowR padR
  by_cases hc : 1 ≤ dx + v ∧ dx + v - 1 < 36
  · rw [if_pos hc]
    refine Finset.sum_congr rfl fun i _ => congrArg (· * w o i dy dx) ?_
    obtain rfl | rfl | rfl : dy = 0 ∨ dy = 1 ∨ dy = 2 := by omega
    · by_cases h0 : h = 0
      · rw [if_neg (by omega), if_pos rfl, if_pos (by omega)]
      · rw [if_pos (by omega), if_pos rfl, if_neg (by omega)]
        congr 1; omega
    · rw [if_pos (by omega), if_neg one_ne_zero, if_pos rfl]
      congr 1; omega
    · rw [if_neg two_ne_zero, if_neg (show ¬ (2 : ℕ) = 1 by norm_num)]
      by_cases h1 : h = 35
      · rw [if_neg (by omega), if_neg (by omega)]
      · rw [if_pos (by omega), if_pos (by omega)]
        congr 1; omega
  · rw [if_neg hc]
    refine Finset.sum_eq_zero fun i _ => ?_
    rw [if_neg fun h => hc h.2, zero_mul]

/-- The nine taps and the bias are the convolution written with stacked rows. -/
theorem cells_conv (a : ℕ → ℕ → ℝ) (w : ℕ → ℕ → ℕ → ℕ → ℝ) (b : ℕ → ℝ) {o h v : ℕ} (hh : h < 36) (hv : v < 36) :
    cellR a w o h v 0 0 + cellR a w o h v 0 1 + cellR a w o h v 0 2 + cellR a w o h v 1 0 + cellR a w o h v 1 1
      + cellR a w o h v 1 2 + cellR a w o h v 2 0 + cellR a w o h v 2 1 + cellR a w o h v 2 2 + b o
      = convR a (tapsR w) b (36 * h + v) o := by
  unfold convR
  simp only [cell_row a w hh hv (show 0 < 3 by norm_num), cell_row a w hh hv (show 1 < 3 by norm_num),
    cell_row a w hh hv (show 2 < 3 by norm_num), tapR_rows]
  have e1 : 36 * h + (1 + v - 1) = 36 * h + v := by omega
  rw [if_pos (show 1 ≤ 1 + v ∧ 1 + v - 1 < 36 by omega), if_pos (show 1 ≤ 1 + v ∧ 1 + v - 1 < 36 by omega),
    if_pos (show 1 ≤ 1 + v ∧ 1 + v - 1 < 36 by omega), e1]
  have e2 : 36 * h + (2 + v - 1) = 36 * h + v + 1 := by omega
  rw [e2]
  by_cases h0 : v = 0
  · rw [if_neg (show ¬ (1 ≤ 0 + v ∧ 0 + v - 1 < 36) by omega), if_neg (show ¬ (1 ≤ 0 + v ∧ 0 + v - 1 < 36) by omega),
      if_neg (show ¬ (1 ≤ 0 + v ∧ 0 + v - 1 < 36) by omega), if_pos (show 1 ≤ 2 + v ∧ 2 + v - 1 < 36 by omega),
      if_pos (show 1 ≤ 2 + v ∧ 2 + v - 1 < 36 by omega), if_pos (show 1 ≤ 2 + v ∧ 2 + v - 1 < 36 by omega),
      if_pos (show (36 * h + v) % 36 = 0 by omega), if_neg (show ¬ (36 * h + v) % 36 = 35 by omega)]
    ring
  · have e0 : 36 * h + (0 + v - 1) = 36 * h + v - 1 := by omega
    rw [if_pos (show 1 ≤ 0 + v ∧ 0 + v - 1 < 36 by omega), if_pos (show 1 ≤ 0 + v ∧ 0 + v - 1 < 36 by omega),
      if_pos (show 1 ≤ 0 + v ∧ 0 + v - 1 < 36 by omega), e0, if_neg (show ¬ (36 * h + v) % 36 = 0 by omega)]
    by_cases h1 : v = 35
    · rw [if_neg (show ¬ (1 ≤ 2 + v ∧ 2 + v - 1 < 36) by omega), if_neg (show ¬ (1 ≤ 2 + v ∧ 2 + v - 1 < 36) by omega),
        if_neg (show ¬ (1 ≤ 2 + v ∧ 2 + v - 1 < 36) by omega), if_pos (show (36 * h + v) % 36 = 35 by omega)]
      ring
    · rw [if_pos (show 1 ≤ 2 + v ∧ 2 + v - 1 < 36 by omega), if_pos (show 1 ≤ 2 + v ∧ 2 + v - 1 < 36 by omega),
        if_pos (show 1 ≤ 2 + v ∧ 2 + v - 1 < 36 by omega), if_neg (show ¬ (36 * h + v) % 36 = 35 by omega)]
      ring

/-- A tap's product on real images. -/
theorem tap_sum {p : FVec Ideal S32x256x38x38 .f32} {w : FVec Ideal S256x256x3x3 .f32} {a : ℕ → ℕ → ℕ → ℝ}
    {r : ℕ → ℕ → ℕ → ℕ → ℝ} (hp : Rd4 p fun n i h v => padR (a n) i h v) (hw : Rd4 w r) (n : Fin 32) (o : Fin 256)
    (h v : Fin 36) (dy dx : Fin 3) (h' v' : Fin 38) (eh : (h' : ℕ) = dy + h) (ev : (v' : ℕ) = dx + v) :
    (∑ i : Fin 256, p (ix4 n i h' v') * w (ix4 o i dy dx)) = ((cellR (a n) r o h v dy dx : ℝ) : EReal) := by
  simp only [hp _ _ _ _, hw _ _ _ _, ← EReal.coe_mul, eh, ev]
  exact coe_sum_fin (n := 256) fun i => padR (a n) i (dy + h) (dx + v) * r o i dy dx

/-- Equal terms have equal sums. -/
theorem add_congr {a b c d : EReal} (h : a = b) (h' : c = d) : a + c = b + d := by rw [h, h']

/-- The reference's convolution of real images holds the real convolution. -/
theorem convV_rd {x : Imgs} {w : FVec Ideal S256x256x3x3 .f32} {b : FVec Ideal S256 .f32} {a : ℕ → ℕ → ℕ → ℝ}
    {r : ℕ → ℕ → ℕ → ℕ → ℝ} {β : ℕ → ℝ} (hx : RdI x a) (hw : Rd4 w r) (hb : Rd1 b β) :
    RdI (convV x w b) fun n p o => convR (a n) (tapsR r) β p o := by
  intro n o h v
  have hp := padV_rd hx
  pointwise [convV, tapsV, tapV, chanV, val_main_cst]
  refine (add_congr (add_congr (add_congr (add_congr (add_congr (add_congr (add_congr (add_congr (add_congr (tap_sum hp hw n o h v 0 0 _ _ (by simp) (by simp))
    (tap_sum hp hw n o h v 0 1 _ _ (by simp) (by simp)))
    (tap_sum hp hw n o h v 0 2 _ _ (by simp) (by simp)))
    (tap_sum hp hw n o h v 1 0 _ _ (by simp) (by simp)))
    (tap_sum hp hw n o h v 1 1 _ _ (by simp) (by simp)))
    (tap_sum hp hw n o h v 1 2 _ _ (by simp) (by simp)))
    (tap_sum hp hw n o h v 2 0 _ _ (by simp) (by simp)))
    (tap_sum hp hw n o h v 2 1 _ _ (by simp) (by simp)))
    (tap_sum hp hw n o h v 2 2 _ _ (by simp) (by simp))) (hb o)).trans ?_
  simp only [← EReal.coe_add]
  exact congrArg _ (cells_conv (a n) r β h.isLt v.isLt)

/-- The first layer's convolution is this one. -/
theorem conv1_eq (x0 x2 x3) : val_main_v59 (F := Ideal) x0 x2 x3 = convV (val_main_v0 (F := Ideal) x0) x2 x3 := rfl

end Cert.Proof
end
-- ==== Proof.RefNorm.lean ====
/-
  The reference's batch normalisation and the rectifier after it, and the layer they end.
-/
module

public import proofs.«01_k».proof.Proof.RefConv

@[expose] public section
set_option maxRecDepth 16384
noncomputable section
namespace Cert.Proof
open Idealize.ShloMosaic Idealize.SL.Sem Cert.ReferenceIdeal Cert.ReferenceIdeal.Gen Cert.ReferenceIdeal.Read
open Finset (range)

/-- A channel's sum over every image and pixel, added to nothing. -/
def sumV (y : Imgs) : FVec Ideal S256 .f32 :=
  Host.reduceAdd y (val_main_cst_0 (F := Ideal)) reducesTo_S32x256x36x36_S256_d0_2_3 h_S_

/-- A channel's mean over every image and pixel. -/
def avgV (y : Imgs) : FVec Ideal S1x256x1x1 .f32 :=
  Host.divf (broadcastInDim S1x256x1x1 ![1] bcast_S256_S1x256x1x1_1 (sumV y) : FVec Ideal S1x256x1x1 .f32)
    (val_main_v62 (F := Ideal))

/-- The images less their channels' means. -/
def cenV (y : Imgs) : Imgs :=
  subf y (broadcastInDim S32x256x36x36 ![0, 1, 2, 3] bcast_S1x256x1x1_S32x256x36x36_0_1_2_3 (avgV y) : Imgs)

/-- The images normalised, scaled, shifted and rectified. -/
def normV (y : Imgs) (g β : FVec Ideal S256 .f32) : Imgs :=
  maximumf (addf (mulf (Host.divf (cenV y) (broadcastInDim S32x256x36x36 ![0, 1, 2, 3]
      bcast_S1x256x1x1_S32x256x36x36_0_1_2_3
      (Host.sqrt (addf (avgV (mulf (cenV y) (cenV y))) (val_main_v73 (F := Ideal)) : FVec Ideal S1x256x1x1 .f32)
        : FVec Ideal S1x256x1x1 .f32) : Imgs)) (chanV g)) (chanV β)) (val_main_call1_v0 (F := Ideal))

/-- One layer of the reference. -/
def layerV (x : Imgs) (w : FVec Ideal S256x256x3x3 .f32) (b g β : FVec Ideal S256 .f32) : Imgs :=
  normV (convV x w b) g β

/-- The first layer is this one. -/
theorem layer1_eq (x0 x2 x3 x4 x5) :
    val_main_v84 (F := Ideal) x0 x2 x3 x4 x5 = layerV (val_main_v0 (F := Ideal) x0) x2 x3 x4 x5 := rfl
/-- The second layer is this one. -/
theorem layer2_eq (x0 x2 x3 x4 x5 x6 x7 x8 x9) : val_main_v168 (F := Ideal) x0 x2 x3 x4 x5 x6 x7 x8 x9
    = layerV (val_main_v84 (F := Ideal) x0 x2 x3 x4 x5) x6 x7 x8 x9 := rfl
/-- The third layer is this one. -/
theorem layer3_eq (x0 x2 x3 x4 x5 x6 x7 x8 x9 x10 x11 x12 x13) :
    val_main_v252 (F := Ideal) x0 x2 x3 x4 x5 x6 x7 x8 x9 x10 x11 x12 x13
    = layerV (val_main_v168 (F := Ideal) x0 x2 x3 x4 x5 x6 x7 x8 x9) x10 x11 x12 x13 := rfl

/-- The coordinate a channel's sum keeps. -/
theorem drop_chan (i : S32x256x36x36.Idx) :
    reducesTo_S32x256x36x36_S256_d0_2_3.drop i = (ix1 (i 1) : S256.Idx) := by
  funext b
  fin_cases b
  rfl

/-- The sum over a channel's indices, axis by axis. -/
theorem sum_chan (y : S32x256x36x36.Idx → EReal) (o : Fin 256) :
    (∑ i ∈ Finset.univ.filter fun i => reducesTo_S32x256x36x36_S256_d0_2_3.drop i = (ix1 o : S256.Idx), y i)
      = ∑ q : Fin 32 × Fin 36 × Fin 36, y (ix4 q.1 o q.2.1 q.2.2) := by
  refine Finset.sum_bij' (fun i _ => ((i 0 : Fin 32), (i 2 : Fin 36), (i 3 : Fin 36))) (fun q _ => ix4 q.1 o q.2.1 q.2.2)
    (fun _ _ => Finset.mem_univ _) ?_ ?_ (fun _ _ => rfl) ?_
  · intro q _
    exact Finset.mem_filter.2 ⟨Finset.mem_univ _, drop_chan _⟩
  · intro i hi
    have e := (Finset.mem_filter.1 hi).2
    rw [drop_chan] at e
    have e1 : (i 1 : Fin 256) = o := congrFun e 0
    funext d
    fin_cases d
    exacts [rfl, e1.symm, rfl, rfl]
  · intro i hi
    have e := (Finset.mem_filter.1 hi).2
    rw [drop_chan] at e
    have e1 : (i 1 : Fin 256) = o := congrFun e 0
    refine congrArg y ?_
    funext d
    fin_cases d
    exacts [rfl, e1, rfl, rfl]

/-- A sum over an image's pixels, row by row, is the sum over their positions. -/
theorem sum_pixels (g : ℕ → ℝ) :
    (∑ h : Fin 36, ∑ v : Fin 36, g (36 * h + v)) = ∑ p ∈ range 1296, g p := by
  rw [Finset.sum_range]
  refine Eq.symm ((Fin.sum_univ_tiles 36 36 (by norm_num) fun i : Fin 1296 => g i).trans ?_)
  refine Finset.sum_congr rfl fun h _ => Finset.sum_congr rfl fun v _ => congrArg g ?_
  show (h : ℕ) * 36 + v = 36 * h + v
  ring

/-- A channel's sum of real images. -/
theorem sumV_rd {y : Imgs} {f : ℕ → ℕ → ℕ → ℝ} (hy : RdI y f) :
    Rd1 (sumV y) fun o => totR fun n p => f n p o := by
  intro o
  pointwise [sumV, val_main_cst_0]
  unfold Ideal.hostReduceAdd
  rw [sum_chan, zero_add]
  simp only [Fintype.sum_prod_type, hy _ _ _ _]
  simp only [coe_sum_real]
  have e : ∀ n : ℕ, (∑ h : Fin 36, ∑ v : Fin 36, f n (36 * h + v) o) = ∑ p ∈ range 1296, f n p o :=
    fun n => sum_pixels fun p => f n p o
  simp only [e]
  unfold totR
  rw [Finset.sum_range]

/-- The centred images. -/
theorem cenV_rd {y : Imgs} {f : ℕ → ℕ → ℕ → ℝ} (hy : RdI y f) :
    RdI (cenV y) fun n p o => f n p o - meanR fun n p => f n p o := by
  intro n o h v
  pointwise [cenV, avgV, val_main_v62, val_main_cst_1]
  rw [sumV_rd hy o, hy n o h v, mean_real, ← EReal.coe_sub]

/-- The squares of real images. -/
theorem sqV_rd {y : Imgs} {f : ℕ → ℕ → ℕ → ℝ} (hy : RdI y f) : RdI (mulf y y) fun n p o => f n p o * f n p o := by
  intro n o h v
  pointwise []
  rw [hy n o h v, ← EReal.coe_mul]

/-- The normalised and rectified images: the printed scale and shift applied to the images. -/
theorem normV_rd {y : Imgs} {g β : FVec Ideal S256 .f32} {f : ℕ → ℕ → ℕ → ℝ} {γ s : ℕ → ℝ} (hy : RdI y f)
    (hg : Rd1 g γ) (hb : Rd1 β s) :
    RdI (normV y g β) fun n p o => reluR (f n) (scalesR f γ) (shiftsR f γ s) p o := by
  intro n o h v
  have hc := cenV_rd hy
  pointwise [normV, avgV, chanV, val_main_v62, val_main_cst_1, val_main_v73, val_main_cst_4, val_main_call1_v0, val_main_call1_cst]
  rw [sumV_rd (sqV_rd hc) o, hc n o h v, hg o, hb o,
    show Ideal.ofBits .f32 1193410560#32 = ((41472 : ℝ) : EReal) from count_bits,
    show Ideal.ofBits .f32 925353388#32 = (epsR : EReal) from eps_bits, div_real _ (by norm_num), ← EReal.coe_add,
    ← varR_eq fun n p => f n p o, sqrt_real (add_nonneg (varR_nonneg _) epsR_pos.le)]
  rw [show Real.sqrt (varR (fun n p => f n p o) + epsR) = sdR fun n p => f n p o from rfl, div_real _ (sdR_pos _).ne',
    ← EReal.coe_mul, ← EReal.coe_add, coe_max_zero]
  refine congrArg _ ?_
  unfold reluR scalesR shiftsR
  rw [scale_shift]

/-- A layer of the reference on real images. -/
theorem layerV_rd {x : Imgs} {w : FVec Ideal S256x256x3x3 .f32} {b g β : FVec Ideal S256 .f32} {a : ℕ → ℕ → ℕ → ℝ}
    {r : ℕ → ℕ → ℕ → ℕ → ℝ} {c γ s : ℕ → ℝ} (hx : RdI x a) (hw : Rd4 w r) (hb : Rd1 b c) (hg : Rd1 g γ)
    (hs : Rd1 β s) : RdI (layerV x w b g β) fun n p o =>
      reluR (fun p o => convR (a n) (tapsR r) c p o) (scalesR (fun n p o => convR (a n) (tapsR r) c p o) γ)
        (shiftsR (fun n p o => convR (a n) (tapsR r) c p o) γ s) p o :=
  normV_rd (convV_rd hx hw hb) hg hs

/-- The features, as images. -/
theorem feat_rd {x0 : FVec Ideal S8x4x256x36x36 .f32} {f : ℕ → ℕ → ℕ → ℕ → ℕ → ℝ} (h0 : Rd5 x0 f) :
    RdI (val_main_v0 (F := Ideal) x0) fun n => flatR fun i h v =>
      f ((256 * n + i) / 1024) ((256 * n + i) / 256 % 4) ((256 * n + i) % 256) h v := by
  intro n i h v
  pointwise [val_main_v0]
  rw [h0 _ _ _ _ _]
  unfold flatR
  simp only [Fin.val_mk]
  have e1 : (36 * (h : ℕ) + v) / 36 = h := by omega
  have e2 : (36 * (h : ℕ) + v) % 36 = v := by omega
  rw [e1, e2]
  congr 2 <;> omega

/-- The third layer's images hold the kernel's third convolution, normalised and rectified. -/
theorem images_rd {R : Reals} {x0 x1 x2 x3 x4 x5 x6 x7 x8 x9 x10 x11 x12 x13 x14 x15}
    (H : Holds R x0 x1 x2 x3 x4 x5 x6 x7 x8 x9 x10 x11 x12 x13 x14 x15) :
    RdI (val_main_v252 (F := Ideal) x0 x2 x3 x4 x5 x6 x7 x8 x9 x10 x11 x12 x13)
      fun n p o => reluR (R.y3 n) (scalesR R.y3 R.g3) (shiftsR R.y3 R.g3 R.s3) p o := by
  rw [layer3_eq, layer2_eq, layer1_eq]
  exact layerV_rd (layerV_rd (layerV_rd (feat_rd H.feat) H.w1 H.b1 H.g1 H.s1) H.w2 H.b2 H.g2 H.s2) H.w3 H.b3 H.g3 H.s3

end Cert.Proof
end
-- ==== Proof.RefCorners.lean ====
/-
  The reference's regions of interest: the corners of their bins, the cells the corners lie in, and the weights
  of the corners within their cells.
-/
module

public import proofs.«01_k».proof.Proof.RefNorm

@[expose] public section
set_option maxRecDepth 16384
noncomputable section
namespace Cert.Proof
open Idealize.ShloMosaic Idealize.SL.Sem Cert.ReferenceIdeal Cert.ReferenceIdeal.Gen Cert.ReferenceIdeal.Read

variable {x1 : FVec Ideal S8x4x16x4 .f32} {ρ : ℕ → ℕ → ℕ → ℕ → ℝ}

/-- The region `r`: its left edge, its top edge, its width and its height. -/
def boxR (ρ : ℕ → ℕ → ℕ → ℕ → ℝ) (r : ℕ) : ℕ → ℝ := ρ (r / 16 / 4) (r / 16 % 4) (r % 16)

/-- Zero, in the reference's text. -/
theorem zero_bits : Ideal.ofBits .f32 0#32 = ((0 : ℝ) : EReal) := by simp [Ideal.ofBits, Ideal.ieee]

/-- A small natural number, made a real and kept in a word. -/
theorem fptosi_nat {n : ℕ} (h : n < 2 ^ 31) : FloatOps.fptosi (F := Ideal) (φ := .f32) 32 (((n : ℕ) : ℝ) : EReal) = BitVec.ofNat 32 n := by
  show Ideal.fptosi 32 (((n : ℕ) : ℝ) : EReal) = _
  rw [Ideal.fptosi, Ideal.toIntClamped_coe, if_pos (Nat.cast_nonneg n), Int.floor_natCast, min_eq_right (by omega),
    max_eq_right (by omega), BitVec.ofInt_natCast]

/-- A cell's number is small. -/
theorem cellN_le (X : ℝ) : cellN X ≤ 34 := min_le_left _ _

/-- Four, in the reference's text. -/
theorem bits4 : Ideal.ofBits .f32 1082130432#32 = ((4 : ℝ) : EReal) := by
  simp [Ideal.ofBits, Ideal.ieee, -EReal.coe_mul]; norm_num

/-- The step each region lies in. -/
theorem steps (r : Fin 512) : val_main_v297 (F := Ideal) x1 (ix1 r) = BitVec.ofNat 32 (r / 16) := by
  pointwise [val_main_v297, val_main_v296, val_main_v295, val_main_v263, val_main_v262, val_main_v261, val_main_v260,
    val_main_v259]
  rw [sitofp_nat (by omega), fptosi_nat (by omega)]

/-- Twenty times the left edges, -/
theorem left_rd (h : Rd4 x1 ρ) : Rd1 (val_main_v301 (F := Ideal) x1) fun r => boxR ρ r 0 * 20 := by
  intro r
  pointwise [val_main_v301, val_main_v299, val_main_v298, val_main_v263, val_main_v262, val_main_v258, val_main_v254,
    val_main_v253, val_main_v300, val_main_cst_25]
  rw [h _ _ _ _, bits20, ← EReal.coe_mul]
  rfl
/-- the top edges, -/
theorem top_rd (h : Rd4 x1 ρ) : Rd1 (val_main_v305 (F := Ideal) x1) fun r => boxR ρ r 1 * 20 := by
  intro r
  pointwise [val_main_v305, val_main_v303, val_main_v302, val_main_v263, val_main_v262, val_main_v258, val_main_v254,
    val_main_v253, val_main_v304, val_main_cst_26]
  rw [h _ _ _ _, bits20, ← EReal.coe_mul]
  rfl
/-- the right edges -/
theorem right_rd (h : Rd4 x1 ρ) : Rd1 (val_main_v309 (F := Ideal) x1) fun r => (boxR ρ r 0 + boxR ρ r 2) * 20 := by
  intro r
  pointwise [val_main_v309, val_main_v307, val_main_v306, val_main_v263, val_main_v262, val_main_v258, val_main_v257,
    val_main_v255, val_main_v256, val_main_v253, val_main_v308, val_main_cst_27]
  simp only [h _ _ _ _, ← EReal.coe_add]
  rw [bits20, ← EReal.coe_mul]
  rfl
/-- and the bottom edges. -/
theorem bottom_rd (h : Rd4 x1 ρ) : Rd1 (val_main_v313 (F := Ideal) x1) fun r => (boxR ρ r 1 + boxR ρ r 3) * 20 := by
  intro r
  pointwise [val_main_v313, val_main_v311, val_main_v310, val_main_v263, val_main_v262, val_main_v258, val_main_v257,
    val_main_v255, val_main_v256, val_main_v253, val_main_v312, val_main_cst_28]
  simp only [h _ _ _ _, ← EReal.coe_add]
  rw [bits20, ← EReal.coe_mul]
  rfl

/-- A quarter of the way from one edge to the other. -/
def lenV (lo hi : FVec Ideal S512 .f32) : FVec Ideal S512 .f32 := Host.divf (subf hi lo) (val_main_v315 (F := Ideal))

/-- The corners between two edges, held inside the map. -/
def gridV (lo hi : FVec Ideal S512 .f32) : FVec Ideal S512x5 .f32 :=
  minimumf (val_main_call9_v4 (F := Ideal)) (maximumf (val_main_call9_v1 (F := Ideal))
    (addf (broadcastInDim S512x5 ![0, 1] bcast_S512x1_S512x5_0_1
        (broadcastInDim S512x1 ![0] bcast_S512_S512x1_0 lo : FVec Ideal S512x1 .f32) : FVec Ideal S512x5 .f32)
      (mulf (broadcastInDim S512x5 ![0, 1] bcast_S512x1_S512x5_0_1
        (broadcastInDim S512x1 ![0] bcast_S512_S512x1_0 (lenV lo hi) : FVec Ideal S512x1 .f32) : FVec Ideal S512x5 .f32)
        (val_main_v325 (F := Ideal)))))

/-- The corners' cells. -/
def cellV (X : FVec Ideal S512x5 .f32) : IVec S512x5 32 :=
  fptosi 32 (minimumf (val_main_call11_v4 (F := Ideal)) (maximumf (val_main_call11_v1 (F := Ideal)) (Host.floor X)))

/-- The corners' places inside their cells. -/
def fracV (X : FVec Ideal S512x5 .f32) : FVec Ideal S512x5 .f32 := subf X (sitofp .f32 (cellV X))
/-- The weight of the cell's second value -/
def hiV (X : FVec Ideal S512x5 .f32) : FVec Ideal S512x5 .f32 :=
  mulf (mulf (val_main_v349 (F := Ideal)) (fracV X)) (fracV X)
/-- and of its first value. -/
def loV (X : FVec Ideal S512x5 .f32) : FVec Ideal S512x5 .f32 := subf (fracV X) (hiV X)

/-- A quarter of a region's length, twenty times enlarged. -/
theorem lenV_rd {lo hi : FVec Ideal S512 .f32} {x w : ℕ → ℝ} (hl : Rd1 lo fun r => x r * 20)
    (hh : Rd1 hi fun r => (x r + w r) * 20) : Rd1 (lenV lo hi) fun r => w r * 5 := by
  intro r
  pointwise [lenV, val_main_v315, val_main_cst_29]
  rw [hl r, hh r, bits4, ← EReal.coe_sub, div_real _ (by norm_num)]
  refine congrArg _ ?_
  ring

/-- The corners. -/
theorem gridV_rd {lo hi : FVec Ideal S512 .f32} {x w : ℕ → ℝ} (hl : Rd1 lo fun r => x r * 20)
    (hh : Rd1 hi fun r => (x r + w r) * 20) : Rd2 (gridV lo hi) fun r k => cornerR (x r) (w r) k := by
  intro r k
  pointwise [gridV, val_main_call9_v4, val_main_call9_v3, val_main_c_32, val_main_call9_v1, val_main_call9_v0,
    val_main_cst_31, val_main_v325, val_main_v323, val_main_v320]
  rw [hl r, lenV_rd hl hh r, sitofp_nat (n := 35) (by norm_num), sitofp_nat (n := k) (by omega), ← EReal.coe_mul, ← EReal.coe_add,
    show (id (constant S_ FTy.f32 0#32) ix0 : Ideal .f32) = ((0 : ℝ) : EReal) from zero_bits, coe_max_real, coe_min_real]
  unfold cornerR
  norm_num

/-- The cells. -/
theorem cellV_rd {X : FVec Ideal S512x5 .f32} {f : ℕ → ℕ → ℝ} (h : Rd2 X f) (r : Fin 512) (k : Fin 5) :
    cellV X (ix2 r k) = BitVec.ofNat 32 (cellN (f r k)) := by
  pointwise [cellV, val_main_call11_v4, val_main_call11_v3, val_main_c_36, val_main_call11_v1, val_main_call11_v0,
    val_main_c_35]
  rw [h r k, Ideal.liftRound_coe, show (34#32 : BitVec 32) = BitVec.ofNat 32 34 from rfl,
    show (0#32 : BitVec 32) = BitVec.ofNat 32 0 from rfl, sitofp_nat (by norm_num), sitofp_nat (by norm_num),
    coe_max_real, coe_min_real, Nat.cast_zero, Nat.cast_ofNat, clip_floor]
  exact fptosi_nat ((cellN_le _).trans_lt (by norm_num))

/-- The places inside the cells. -/
theorem fracV_rd {X : FVec Ideal S512x5 .f32} {f : ℕ → ℕ → ℝ} (h : Rd2 X f) :
    Rd2 (fracV X) fun r k => f r k - cellN (f r k) := by
  intro r k
  pointwise [fracV]
  rw [cellV_rd h, h r k, sitofp_nat ((cellN_le _).trans_lt (by norm_num)), ← EReal.coe_sub]

/-- The weights of the second values. -/
theorem hiV_rd {X : FVec Ideal S512x5 .f32} {f : ℕ → ℕ → ℝ} (h : Rd2 X f) : Rd2 (hiV X) fun r k => hiR (f r k) := by
  intro r k
  pointwise [hiV, val_main_v349, val_main_cst_39]
  rw [fracV_rd h r k, bits_half, ← EReal.coe_mul, ← EReal.coe_mul]
  rfl

/-- The weights of the first values. -/
theorem loV_rd {X : FVec Ideal S512x5 .f32} {f : ℕ → ℕ → ℝ} (h : Rd2 X f) : Rd2 (loV X) fun r k => loR (f r k) := by
  intro r k
  pointwise [loV]
  rw [fracV_rd h r k, hiV_rd h r k, ← EReal.coe_sub]
  rfl

/-- The corners along `x`. -/
abbrev xsV (x1 : FVec Ideal S8x4x16x4 .f32) : FVec Ideal S512x5 .f32 := gridV (val_main_v301 (F := Ideal) x1) (val_main_v309 (F := Ideal) x1)
/-- The corners along `y`. -/
abbrev ysV (x1 : FVec Ideal S8x4x16x4 .f32) : FVec Ideal S512x5 .f32 := gridV (val_main_v305 (F := Ideal) x1) (val_main_v313 (F := Ideal) x1)

/-- The corners along `x` of real boxes, -/
theorem xsV_rd (h : Rd4 x1 ρ) : Rd2 (xsV x1) fun r k => cornerR (boxR ρ r 0) (boxR ρ r 2) k :=
  gridV_rd (left_rd h) (right_rd h)
/-- and those along `y`. -/
theorem ysV_rd (h : Rd4 x1 ρ) : Rd2 (ysV x1) fun r k => cornerR (boxR ρ r 1) (boxR ρ r 3) k :=
  gridV_rd (top_rd h) (bottom_rd h)

/-- The reference's corners along `x`. -/
theorem xs_eq : val_main_v329 (F := Ideal) x1 = xsV x1 := rfl
/-- The reference's corners along `y`. -/
theorem ys_eq : val_main_v338 (F := Ideal) x1 = ysV x1 := rfl
/-- The cells along `x`. -/
theorem xcell_eq : val_main_v341 (F := Ideal) x1 = cellV (xsV x1) := rfl
/-- The cells along `y`. -/
theorem ycell_eq : val_main_v344 (F := Ideal) x1 = cellV (ysV x1) := rfl
/-- The second values' weights along `x`. -/
theorem xhi_eq : val_main_v351 (F := Ideal) x1 = hiV (xsV x1) := rfl
/-- The first values' weights along `x`. -/
theorem xlo_eq : val_main_v352 (F := Ideal) x1 = loV (xsV x1) := rfl
/-- The second values' weights along `y`. -/
theorem yhi_eq : val_main_v355 (F := Ideal) x1 = hiV (ysV x1) := rfl
/-- The first values' weights along `y`. -/
theorem ylo_eq : val_main_v356 (F := Ideal) x1 = loV (ysV x1) := rfl
/-- The length of a bin along `x`. -/
theorem xlen_eq : val_main_v316 (F := Ideal) x1 = lenV (val_main_v301 (F := Ideal) x1) (val_main_v309 (F := Ideal) x1) := rfl
/-- The length of a bin along `y`. -/
theorem ylen_eq : val_main_v319 (F := Ideal) x1 = lenV (val_main_v305 (F := Ideal) x1) (val_main_v313 (F := Ideal) x1) := rfl

end Cert.Proof
end
-- ==== Proof.Integrals.lean ====
/-
  The mathematics of precise region-of-interest pooling: the integral of a piecewise linear function as a sum of
  trapezoids and as a weighted sum of its values, and the integral over a bin from those at its four corners.
-/
module

public import proofs.«01_k».proof.Proof.PoolWeights

@[expose] public section
noncomputable section
namespace Cert.Proof
open Finset (range)

/-- The integral of the piecewise linear function through the values `f`, from 0 to `v`. -/
def trapR (f : ℕ → ℝ) (v : ℕ) : ℝ := ∑ t ∈ range v, 1 / 2 * (f t + f (t + 1))

/-- The terms below a bound. -/
theorem sum_below (g : ℕ → ℝ) {n N : ℕ} (h : n ≤ N) :
    (∑ u ∈ range N, if u < n then g u else 0) = ∑ u ∈ range n, g u := by
  rw [← Finset.sum_filter]
  refine Finset.sum_congr ?_ fun _ _ => rfl
  ext u
  simp only [Finset.mem_filter, Finset.mem_range]
  omega

/-- The trapezoids' weights: half of each value below the cell, and half of each value after the first up to the cell. -/
theorem weightR_eq (X : ℝ) (u : ℕ) :
    weightR X u = 1 / 2 * (if u < cellN X then 1 else 0) + 1 / 2 * (if 0 < u ∧ u < cellN X + 1 then 1 else 0)
      + (if u = cellN X then loR X else 0) + (if u = cellN X + 1 then hiR X else 0) := by
  unfold weightR
  congr 2
  generalize cellN X = n
  rcases Nat.lt_trichotomy u n with h | h | h
  · rcases Nat.eq_zero_or_pos u with h0 | h0
    · rw [if_pos (by omega : 0 < n), if_pos h, if_pos h0, if_pos h, if_neg (by omega)]; norm_num
    · rw [if_pos (by omega : 0 < n), if_pos h, if_neg (by omega : ¬ u = 0), if_pos h, if_pos (by omega)]; norm_num
  · subst h
    rcases Nat.eq_zero_or_pos u with h0 | h0
    · rw [if_neg (by omega : ¬ 0 < u), if_neg (lt_irrefl u), if_neg (by omega)]; norm_num
    · rw [if_pos h0, if_neg (lt_irrefl u), if_pos rfl, if_neg (lt_irrefl u), if_pos (by omega)]; norm_num
  · rw [if_neg (by omega : ¬ u < n), if_neg (by omega : ¬ u = n), ite_self, if_neg (by omega : ¬ u < n), if_neg (by omega)]; norm_num

/-- THE INTEGRAL, from 0 to `X`: the weighted sum of the values is the trapezoids below the cell and the part inside it. -/
theorem sum_weight (f : ℕ → ℝ) (X : ℝ) :
    ∑ u ∈ range 36, weightR X u * f u = trapR f (cellN X) + f (cellN X) * loR X + f (cellN X + 1) * hiR X := by
  have hn : cellN X ≤ 34 := min_le_left _ _
  simp only [weightR_eq, add_mul, Finset.sum_add_distrib]
  unfold trapR
  generalize cellN X = n at hn ⊢
  have e1 : ∑ u ∈ range 36, 1 / 2 * (if u < n then (1 : ℝ) else 0) * f u = 1 / 2 * ∑ u ∈ range n, f u := by
    rw [← sum_below f (show n ≤ 36 by omega), Finset.mul_sum]
    refine Finset.sum_congr rfl fun u _ => ?_
    split_ifs <;> ring
  have e2 : ∑ u ∈ range 36, 1 / 2 * (if 0 < u ∧ u < n + 1 then (1 : ℝ) else 0) * f u = 1 / 2 * ∑ u ∈ range n, f (u + 1) := by
    rw [Finset.sum_range_succ', ← sum_below (fun u => f (u + 1)) (show n ≤ 35 by omega), Finset.mul_sum]
    rw [if_neg (by omega), mul_zero, zero_mul, add_zero]
    refine Finset.sum_congr rfl fun u _ => ?_
    by_cases h : u < n
    · rw [if_pos (by omega), if_pos h]; ring
    · rw [if_neg (by omega), if_neg h]; ring
  have e3 : ∑ u ∈ range 36, (if u = n then loR X else 0) * f u = f n * loR X := by
    simp only [ite_mul, zero_mul]
    rw [Finset.sum_ite_eq' (range 36) n, if_pos (Finset.mem_range.2 (by omega))]; ring
  have e4 : ∑ u ∈ range 36, (if u = n + 1 then hiR X else 0) * f u = f (n + 1) * hiR X := by
    simp only [ite_mul, zero_mul]
    rw [Finset.sum_ite_eq' (range 36) (n + 1), if_pos (Finset.mem_range.2 (by omega))]; ring
  rw [e1, e2, e3, e4, ← Finset.mul_sum, Finset.sum_add_distrib]
  ring

/-- The integral over the rectangle from 0 to `X` and from 0 to `Y`, by weights. -/
def rectR (X Y : ℝ) (f : ℕ → ℕ → ℝ) : ℝ := ∑ v ∈ range 36, weightR Y v * ∑ u ∈ range 36, weightR X u * f v u

/-- The integral to the end of a cell's part of a line. -/
def lineR (g : ℕ → ℝ) (U X : ℝ) : ℝ := U + g (cellN X) * loR X + g (cellN X + 1) * hiR X

/-- Trapezoids of a sum of multiples. -/
theorem trapR_comb (a b c : ℕ → ℝ) (s t : ℝ) (n : ℕ) :
    trapR (fun v => a v + b v * s + c v * t) n = trapR a n + trapR b n * s + trapR c n * t := by
  unfold trapR
  rw [Finset.sum_mul, Finset.sum_mul, ← Finset.sum_add_distrib, ← Finset.sum_add_distrib]
  exact Finset.sum_congr rfl fun v _ => by ring

/-- The integral over the rectangle from the cumulative integrals. -/
theorem rect_eq (X Y : ℝ) (f : ℕ → ℕ → ℝ) :
    lineR (fun x => trapR (fun v => f v x) (cellN Y)) (trapR (fun v => trapR (f v) (cellN X)) (cellN Y)) X
        + loR Y * lineR (f (cellN Y)) (trapR (f (cellN Y)) (cellN X)) X
        + hiR Y * lineR (f (cellN Y + 1)) (trapR (f (cellN Y + 1)) (cellN X)) X
      = rectR X Y f := by
  unfold rectR
  simp only [sum_weight _ X]
  rw [sum_weight _ Y, trapR_comb]
  unfold lineR
  ring

/-- The integral over a bin, from those over the rectangles to its corners. -/
theorem bin_eq (X X' Y Y' : ℝ) (f : ℕ → ℕ → ℝ) :
    rectR X' Y' f - rectR X' Y f - rectR X Y' f + rectR X Y f
      = ∑ v ∈ range 36, ∑ u ∈ range 36, (weightR Y' v - weightR Y v) * (weightR X' u - weightR X u) * f v u := by
  unfold rectR
  rw [← Finset.sum_sub_distrib, ← Finset.sum_sub_distrib, ← Finset.sum_add_distrib]
  refine Finset.sum_congr rfl fun v _ => ?_
  rw [Finset.mul_sum, Finset.mul_sum, Finset.mul_sum, Finset.mul_sum, ← Finset.sum_sub_distrib, ← Finset.sum_sub_distrib,
    ← Finset.sum_add_distrib]
  exact Finset.sum_congr rfl fun u _ => by ring

/-- A place with the channel first, its column, row and channel put together in the other order -/
def placesFirst (k : ℕ) : ℕ := k % 4 * 1024 + k / 4 % 4 * 256 + k / 16
/-- and back. -/
def chanFirst (k : ℕ) : ℕ := k % 256 * 16 + k / 256 % 4 * 4 + k / 1024

/-- The three parts of a place with the channel first -/
theorem chanFirst_parts {k : ℕ} (h : k < 4096) :
    chanFirst k % 4 = k / 1024 ∧ chanFirst k / 4 % 4 = k / 256 % 4 ∧ chanFirst k / 16 = k % 256 := by
  have h1 : k / 1024 < 4 := by omega
  have h2 : k / 256 % 4 < 4 := by omega
  unfold chanFirst
  generalize k / 1024 = a at h1 ⊢
  generalize k / 256 % 4 = b at h2 ⊢
  generalize k % 256 = c
  omega
/-- and of one with the channel last. -/
theorem placesFirst_parts {k : ℕ} (h : k < 4096) :
    placesFirst k / 1024 = k % 4 ∧ placesFirst k / 256 % 4 = k / 4 % 4 ∧ placesFirst k % 256 = k / 16 := by
  have h1 : k / 16 < 256 := by omega
  have h2 : k / 4 % 4 < 4 := by omega
  have h3 : k % 4 < 4 := by omega
  unfold placesFirst
  generalize k / 16 = a at h1 ⊢
  generalize k / 4 % 4 = b at h2 ⊢
  generalize k % 4 = c at h3 ⊢
  omega

/-- The two orders undo each other, -/
theorem placesFirst_chanFirst {k : ℕ} (h : k < 4096) : placesFirst (chanFirst k) = k := by
  obtain ⟨e1, e2, e3⟩ := chanFirst_parts h
  rw [placesFirst, e1, e2, e3]
  omega
/-- both ways round. -/
theorem chanFirst_placesFirst {k : ℕ} (h : k < 4096) : chanFirst (placesFirst k) = k := by
  obtain ⟨e1, e2, e3⟩ := placesFirst_parts h
  rw [chanFirst, e1, e2, e3]
  omega

/-- A sum over the pooled values in either order: channels first, or places first. -/
theorem sum_swapped (g : ℕ → ℝ) : ∑ k ∈ range 4096, g k = ∑ k ∈ range 4096, g (placesFirst k) := by
  refine Finset.sum_nbij' chanFirst placesFirst ?_ ?_ ?_ ?_ ?_
  all_goals intro k hk
  all_goals have hk' := Finset.mem_range.1 hk
  · refine Finset.mem_range.2 ?_
    unfold chanFirst
    omega
  · refine Finset.mem_range.2 ?_
    unfold placesFirst
    omega
  · exact placesFirst_chanFirst hk'
  · exact chanFirst_placesFirst hk'
  · rw [placesFirst_chanFirst hk']

end Cert.Proof
end
-- ==== Proof.RefTrap.lean ====
/-
  The reference's cumulative integrals: running sums of trapezoids along the last axis, and along the axis before
  it by exchanging the two; and its reads of the images at computed positions.
-/
module

public import proofs.«01_k».proof.Proof.RefCorners
public import proofs.«01_k».proof.Proof.Integrals
public import Idealize.ShloMosaic.Lib.StableHlo.Predicate

@[expose] public section
set_option maxRecDepth 16384
noncomputable section
namespace Cert.Proof
open Idealize.ShloMosaic Idealize.SL.Sem Cert.ReferenceIdeal Cert.ReferenceIdeal.Gen Cert.ReferenceIdeal.Read
open Finset (range)

/-- Adding a list's terms one after another is adding their sum. -/
theorem foldl_sum {ι : Type} (l : List ι) (g : ι → EReal) (z : EReal) :
    l.foldl (fun r n => r + g n) z = z + (l.map g).sum := by
  induction l generalizing z with
  | nil => simp
  | cons a l ih => rw [List.foldl_cons, ih, List.map_cons, List.sum_cons, add_assoc]

/-- The part of a window of 35 that lies on the array ending at `v` is the array's beginning. -/
theorem sum_tail (g : ℕ → ℝ) {v : ℕ} (hv : v < 35) :
    (∑ t ∈ range 35, if 34 ≤ v + t then g (v + t - 34) else 0) = ∑ t ∈ range (v + 1), g t := by
  rw [show 35 = (34 - v) + (v + 1) by omega, Finset.sum_range_add]
  rw [Finset.sum_eq_zero fun t ht => if_neg (by have := Finset.mem_range.1 ht; omega), zero_add]
  refine Finset.sum_congr rfl fun t ht => ?_
  rw [if_pos (by omega)]
  congr 1; omega

/-- The running sums along the last axis. -/
def runV (x : FVec Ideal S32x256x36x35 .f32) : FVec Ideal S32x256x36x35 .f32 :=
  Host.reduceWindowAdd ![1, 1, 1, 35] ![1, 1, 1, 1] ![0, 0, 0, 34] ![0, 0, 0, 0] x
    (val_main_call6_call0_v0 (F := Ideal))
    reduceWindows_S32x256x36x35_S32x256x36x35_w1s1p0_0_w1s1p0_0_w1s1p0_0_w35s1p34_0 h_S_

/-- A window of 35 on the last axis has 35 positions. -/
theorem sum_window (g : (⟨4, ![1, 1, 1, 35]⟩ : Shape).Idx → EReal) :
    (∑ i, g ((Shape.rowMajor ⟨4, ![1, 1, 1, 35]⟩).symm i)) = ∑ t : Fin 35, g (ix4 (0 : Fin 1) (0 : Fin 1) (0 : Fin 1) t) := by
  rw [Equiv.sum_comp (Shape.rowMajor ⟨4, ![1, 1, 1, 35]⟩).symm g, sum_idx4]
  simp only [Fin.sum_univ_one, Fin.isValue]

/-- What the window at an index meets at one of its positions. -/
def metV (x : FVec Ideal S32x256x36x35 .f32) (j : S32x256x36x35.Idx) (w : (⟨4, ![1, 1, 1, 35]⟩ : Shape).Idx) : EReal :=
  if hin : ∀ a : Fin 4, (![0, 0, 0, 34] : Fin 4 → ℕ) a ≤ (j a).val * (![1, 1, 1, 1] : Fin 4 → ℕ) a + (w a).val
      ∧ (j a).val * (![1, 1, 1, 1] : Fin 4 → ℕ) a + (w a).val - (![0, 0, 0, 34] : Fin 4 → ℕ) a < S32x256x36x35.size a then
    x fun a => ⟨(j a).val * (![1, 1, 1, 1] : Fin 4 → ℕ) a + (w a).val - (![0, 0, 0, 34] : Fin 4 → ℕ) a, (hin a).2⟩
  else 0

/-- The running sum at an index adds up what the window meets. -/
theorem runV_at (x : FVec Ideal S32x256x36x35 .f32) (j : S32x256x36x35.Idx) :
    runV x j = ∑ t : Fin 35, metV x j (ix4 (0 : Fin 1) (0 : Fin 1) (0 : Fin 1) t) := by
  have hz : val_main_call6_call0_v0 (F := Ideal) (Shape.Idx.first h_S_) = (0 : EReal) := by
    show Ideal.ofBits .f32 0#32 = 0
    exact zero_bits
  rw [← sum_window]
  show Ideal.hostReduceWindowAdd ![1, 1, 1, 35] ![1, 1, 1, 1] ![0, 0, 0, 34] ![0, 0, 0, 0]
    reduceWindows_S32x256x36x35_S32x256x36x35_w1s1p0_0_w1s1p0_0_w1s1p0_0_w35s1p34_0 x
    (val_main_call6_call0_v0 (F := Ideal) (Shape.Idx.first h_S_)) j = _
  unfold Ideal.hostReduceWindowAdd Host.reduceWindow
  dsimp only
  rw [foldl_sum, ← Fin.sum_univ_def, hz, zero_add]
  refine Finset.sum_congr rfl fun i _ => ?_
  unfold metV
  exact dite_congr rfl (fun _ => rfl) fun _ => rfl

/-- A running sum of real numbers. -/
theorem runV_rd {x : FVec Ideal S32x256x36x35 .f32} {f : ℕ → ℕ → ℕ → ℕ → ℝ} (hx : Rd4 x f) :
    Rd4 (runV x) fun n i h v => ∑ t ∈ range (v + 1), f n i h t := by
  intro n i h v
  rw [runV_at]
  show _ = ((∑ t ∈ range ((v : ℕ) + 1), f n i h t : ℝ) : EReal)
  rw [← sum_tail (f n i h) v.2, ← coe_sum_real, Finset.sum_range]
  refine Finset.sum_congr rfl fun t _ => ?_
  unfold metV
  by_cases ht : 34 ≤ (v : ℕ) + t
  · rw [if_pos ht, dif_pos]
    · refine Eq.trans ?_ (hx n i h ⟨v + t - 34, by omega⟩)
      refine congrArg x ?_
      funext a
      fin_cases a
      · exact Fin.ext (by show (n : ℕ) * 1 + 0 - 0 = n; omega)
      · exact Fin.ext (by show (i : ℕ) * 1 + 0 - 0 = i; omega)
      · exact Fin.ext (by show (h : ℕ) * 1 + 0 - 0 = h; omega)
      · exact Fin.ext (by show (v : ℕ) * 1 + t - 34 = v + t - 34; omega)
    · intro a
      fin_cases a
      · show 0 ≤ (n : ℕ) * 1 + 0 ∧ (n : ℕ) * 1 + 0 - 0 < 32; omega
      · show 0 ≤ (i : ℕ) * 1 + 0 ∧ (i : ℕ) * 1 + 0 - 0 < 256; omega
      · show 0 ≤ (h : ℕ) * 1 + 0 ∧ (h : ℕ) * 1 + 0 - 0 < 36; omega
      · show 34 ≤ (v : ℕ) * 1 + t ∧ (v : ℕ) * 1 + t - 34 < 35; omega
  · rw [if_neg ht, dif_neg]
    · rfl
    · intro hin
      have := (hin 3).1
      have h3 : 34 ≤ (v : ℕ) * 1 + t := this
      omega

/-- A zero put before each line of 35. -/
def zeroV (x : FVec Ideal S32x256x36x35 .f32) : Imgs :=
  concatenate S32x256x36x36 3 [⟨S32x256x36x1, (val_main_v270 (F := Ideal))⟩, ⟨S32x256x36x35, x⟩]
    concatenates_S32x256x36x1_S32x256x36x35_S32x256x36x36_d3

/-- Its entries. -/
theorem zeroV_at (x : FVec Ideal S32x256x36x35 .f32) (n : Fin 32) (i : Fin 256) (h v : Fin 36) :
    zeroV x (ix4 n i h v) = if hv : (v : ℕ) < 1 then 0 else x (ix4 n i h ⟨v - 1, by omega⟩) := by
  pointwise [zeroV, val_main_v270, val_main_cst_20]

/-- The trapezoids between neighbours on the last axis. -/
def midV (a : Imgs) : FVec Ideal S32x256x36x35 .f32 :=
  mulf (val_main_v267 (F := Ideal)) (addf
    (extractStridedSlice S32x256x36x35 ![0, 0, 0, 0] a slices_S32x256x36x36_S32x256x36x35_0_0_0_0 : FVec Ideal S32x256x36x35 .f32)
    (extractStridedSlice S32x256x36x35 ![0, 0, 0, 1] a slices_S32x256x36x36_S32x256x36x35_0_0_0_1))

/-- The integrals along the last axis. -/
def trapV (a : Imgs) : Imgs := zeroV (runV (midV a))

/-- The last two axes exchanged. -/
def swapV (a : Imgs) : Imgs := transpose S32x256x36x36 [0, 1, 3, 2] a transposes_S32x256x36x36_S32x256x36x36_0_1_3_2

/-- The last two axes exchanged, of real images. -/
theorem swapV_rd {a : Imgs} {f : ℕ → ℕ → ℕ → ℕ → ℝ} (ha : Rd4 a f) : Rd4 (swapV a) fun n i h v => f n i v h := by
  intro n i h v
  pointwise [swapV]
  exact ha _ _ _ _

/-- The trapezoids of real images. -/
theorem midV_rd {a : Imgs} {f : ℕ → ℕ → ℕ → ℕ → ℝ} (ha : Rd4 a f) :
    Rd4 (midV a) fun n i h v => 1 / 2 * (f n i h v + f n i h (v + 1)) := by
  intro n i h v
  pointwise [midV, val_main_v267, val_main_cst_19]
  simp only [ha _ _ _ _, bits_half, ← EReal.coe_add, ← EReal.coe_mul, Nat.add_comm 1]

/-- The integrals of real images. -/
theorem trapV_rd {a : Imgs} {f : ℕ → ℕ → ℕ → ℕ → ℝ} (ha : Rd4 a f) :
    Rd4 (trapV a) fun n i h v => trapR (f n i h) v := by
  intro n i h v
  rw [show trapV a = zeroV (runV (midV a)) from rfl, zeroV_at]
  split_ifs with hv
  · show _ = ((trapR (f n i h) v : ℝ) : EReal)
    rw [show (v : ℕ) = 0 by omega]
    rfl
  · refine (runV_rd (midV_rd ha) _ _ _ _).trans ?_
    show ((∑ t ∈ range ((v : ℕ) - 1 + 1), _ : ℝ) : EReal) = ((trapR (f n i h) v : ℝ) : EReal)
    rw [show (v : ℕ) - 1 + 1 = v by omega]
    rfl

/-- The integral along `x`. -/
theorem ux_eq (x0 x2 x3 x4 x5 x6 x7 x8 x9 x10 x11 x12 x13) :
    val_main_v272 (F := Ideal) x0 x2 x3 x4 x5 x6 x7 x8 x9 x10 x11 x12 x13
      = trapV (val_main_v252 (F := Ideal) x0 x2 x3 x4 x5 x6 x7 x8 x9 x10 x11 x12 x13) := rfl
/-- The integral along `y`. -/
theorem uy_eq (x0 x2 x3 x4 x5 x6 x7 x8 x9 x10 x11 x12 x13) :
    val_main_v283 (F := Ideal) x0 x2 x3 x4 x5 x6 x7 x8 x9 x10 x11 x12 x13
      = swapV (trapV (swapV (val_main_v252 (F := Ideal) x0 x2 x3 x4 x5 x6 x7 x8 x9 x10 x11 x12 x13))) := rfl
/-- The integral along both. -/
theorem uxy_eq (x0 x2 x3 x4 x5 x6 x7 x8 x9 x10 x11 x12 x13) :
    val_main_v294 (F := Ideal) x0 x2 x3 x4 x5 x6 x7 x8 x9 x10 x11 x12 x13
      = swapV (trapV (swapV (val_main_v272 (F := Ideal) x0 x2 x3 x4 x5 x6 x7 x8 x9 x10 x11 x12 x13))) := rfl

/-- The positions a read goes to, from the images, the rows and the columns. -/
def posV (b : IVec S512 32) (h w : IVec S512x5 32) : IVec S512x5x5x3 32 :=
  let b1 : IVec S512x1x1 32 := broadcastInDim S512x1x1 ![0] bcast_S512_S512x1x1_0 b
  let h1 : IVec S512x5x1 32 := broadcastInDim S512x5x1 ![0, 1] bcast_S512x5_S512x5x1_0_1 h
  let w1 : IVec S512x1x5 32 := broadcastInDim S512x1x5 ![0, 2] bcast_S512x5_S512x1x5_0_2 w
  let b2 : IVec S512x1x1 32 := select (cmpi .slt b1 (val_main_v368 (F := Ideal))) (addi b1 (val_main_v370 (F := Ideal))) b1
  let h2 : IVec S512x5x1 32 := select (cmpi .slt h1 (val_main_v373 (F := Ideal))) (addi h1 (val_main_v375 (F := Ideal))) h1
  let w2 : IVec S512x1x5 32 := select (cmpi .slt w1 (val_main_v378 (F := Ideal))) (addi w1 (val_main_v380 (F := Ideal))) w1
  let b3 : IVec S512x5x5 32 := broadcastInDim S512x5x5 ![0, 1, 2] bcast_S512x1x1_S512x5x5_0_1_2 b2
  let h3 : IVec S512x5x5 32 := broadcastInDim S512x5x5 ![0, 1, 2] bcast_S512x5x1_S512x5x5_0_1_2 h2
  let w3 : IVec S512x5x5 32 := broadcastInDim S512x5x5 ![0, 1, 2] bcast_S512x1x5_S512x5x5_0_1_2 w2
  let b4 : IVec S512x5x5x1 32 := broadcastInDim S512x5x5x1 ![0, 1, 2] bcast_S512x5x5_S512x5x5x1_0_1_2 b3
  let h4 : IVec S512x5x5x1 32 := broadcastInDim S512x5x5x1 ![0, 1, 2] bcast_S512x5x5_S512x5x5x1_0_1_2 h3
  let w4 : IVec S512x5x5x1 32 := broadcastInDim S512x5x5x1 ![0, 1, 2] bcast_S512x5x5_S512x5x5x1_0_1_2 w3
  concatenate S512x5x5x3 3 [⟨S512x5x5x1, b4⟩, ⟨S512x5x5x1, h4⟩, ⟨S512x5x5x1, w4⟩]
    concatenates_S512x5x5x1_S512x5x5x1_S512x5x5x1_S512x5x5x3_d3

/-- The images read at those positions. -/
def readV (a : Imgs) (b : IVec S512 32) (h w : IVec S512x5 32) : FVec Ideal S512x5x5x256 .f32 :=
  Host.gather gather_S32x256x36x36_S512x5x5x3_S512x5x5x256_3_023_n_n_023_3_125611 a (posV b h w)

/-- A small position is not negative, and stays as it is. -/
theorem wrap_small {n : ℕ} (h : n < 2 ^ 31) (k : BitVec 32) :
    Scalar.select (IntOp.cmpi .slt (BitVec.ofNat 32 n) 0#32) (BitVec.ofNat 32 n + k) (BitVec.ofNat 32 n)
      = BitVec.ofNat 32 n := by
  have e : IntOp.cmpi .slt (BitVec.ofNat 32 n) 0#32 = 0#1 := by
    have h0 := StableHlo.Predicate.slt_ofNat_iff n 0 h (by norm_num)
    have h1 : ¬ BitVec.ofBool ((BitVec.ofNat 32 n).slt (BitVec.ofNat 32 0)) = 1#1 := fun hh => by
      have := h0.1 hh; omega
    show BitVec.ofBool ((BitVec.ofNat 32 n).slt (BitVec.ofNat 32 0)) = 0#1
    revert h1
    cases (BitVec.ofNat 32 n).slt (BitVec.ofNat 32 0) <;> decide
  rw [e]
  rfl

/-- The three positions. -/
theorem posV_at {b : IVec S512 32} {h w : IVec S512x5 32} (r : Fin 512) (j k : Fin 5) {n y x : ℕ} (hn : n < 32) (hy : y < 36)
    (hx : x < 36) (eb : b (ix1 r) = BitVec.ofNat 32 n) (eh : h (ix2 r j) = BitVec.ofNat 32 y)
    (ew : w (ix2 r k) = BitVec.ofNat 32 x) :
    posV b h w (ix4 r j k 0) = BitVec.ofNat 32 n ∧ posV b h w (ix4 r j k 1) = BitVec.ofNat 32 y
      ∧ posV b h w (ix4 r j k 2) = BitVec.ofNat 32 x := by
  refine ⟨?_, ?_, ?_⟩
  · pointwise [posV, val_main_v368, val_main_c_43, val_main_v370, val_main_c_44]
    rw [eb]
    exact wrap_small (by omega) _
  · pointwise [posV, val_main_v373, val_main_c_45, val_main_v375, val_main_c_46]
    rw [eh]
    exact wrap_small (by omega) _
  · pointwise [posV, val_main_v378, val_main_c_47, val_main_v380, val_main_c_48]
    rw [ew]
    exact wrap_small (by omega) _

/-- The word of a small number, read back signed and kept below a bound it respects. -/
theorem back_small {w : BitVec 32} {n b : ℕ} (e : w = BitVec.ofNat 32 n) (h : n ≤ b) (hb : b < 2 ^ 31) :
    min w.toInt.toNat b = n := by
  rw [e, StableHlo.Predicate.toInt_ofNat_small n (by omega)]
  simp [h]

/-- The element a read reaches. -/
theorem gather_at (a : Imgs) (I : IVec S512x5x5x3 32) (r : Fin 512) (j k : Fin 5) (c : Fin 256) :
    Host.gather gather_S32x256x36x36_S512x5x5x3_S512x5x5x256_3_023_n_n_023_3_125611 a I (ix4 r j k c)
      = a (ix4 ⟨min (I (ix4 r j k 0)).toInt.toNat 31, by omega⟩ c ⟨min (I (ix4 r j k 1)).toInt.toNat 35, by omega⟩
          ⟨min (I (ix4 r j k 2)).toInt.toNat 35, by omega⟩) := by
  unfold Host.gather
  refine congrArg a ?_
  funext d
  fin_cases d
  · refine Fin.ext ?_
    have e : GatherDims.siIdx gather_S32x256x36x36_S512x5x5x3_S512x5x5x256_3_023_n_n_023_3_125611 (ix4 r j k c) ⟨0, by decide⟩ = ix4 r j k 0 := by
      funext b
      fin_cases b <;> rfl
    show min (I (GatherDims.siIdx gather_S32x256x36x36_S512x5x5x3_S512x5x5x256_3_023_n_n_023_3_125611 (ix4 r j k c) ⟨0, by decide⟩)).toInt.toNat (32 - 1) + 0 + 0 = _
    rw [e]
    rfl
  · exact Fin.ext (show 0 + 0 + (c : ℕ) = c by omega)
  · refine Fin.ext ?_
    have e : GatherDims.siIdx gather_S32x256x36x36_S512x5x5x3_S512x5x5x256_3_023_n_n_023_3_125611 (ix4 r j k c) ⟨1, by decide⟩ = ix4 r j k 1 := by
      funext b
      fin_cases b <;> rfl
    show min (I (GatherDims.siIdx gather_S32x256x36x36_S512x5x5x3_S512x5x5x256_3_023_n_n_023_3_125611 (ix4 r j k c) ⟨1, by decide⟩)).toInt.toNat (36 - 1) + 0 + 0 = _
    rw [e]
    rfl
  · refine Fin.ext ?_
    have e : GatherDims.siIdx gather_S32x256x36x36_S512x5x5x3_S512x5x5x256_3_023_n_n_023_3_125611 (ix4 r j k c) ⟨2, by decide⟩ = ix4 r j k 2 := by
      funext b
      fin_cases b <;> rfl
    show min (I (GatherDims.siIdx gather_S32x256x36x36_S512x5x5x3_S512x5x5x256_3_023_n_n_023_3_125611 (ix4 r j k c) ⟨2, by decide⟩)).toInt.toNat (36 - 1) + 0 + 0 = _
    rw [e]
    rfl

/-- The images read at small positions. -/
theorem readV_rd {a : Imgs} {f : ℕ → ℕ → ℕ → ℕ → ℝ} (ha : Rd4 a f) {b : IVec S512 32} {h w : IVec S512x5 32} (r : Fin 512)
    (j k : Fin 5) (c : Fin 256) {n y x : ℕ} (hn : n < 32) (hy : y < 36) (hx : x < 36) (eb : b (ix1 r) = BitVec.ofNat 32 n)
    (eh : h (ix2 r j) = BitVec.ofNat 32 y) (ew : w (ix2 r k) = BitVec.ofNat 32 x) :
    readV a b h w (ix4 r j k c) = ((f n c y x : ℝ) : EReal) := by
  obtain ⟨e0, e1, e2⟩ := posV_at r j k hn hy hx eb eh ew
  refine (gather_at a _ r j k c).trans ?_
  refine Eq.trans ?_ (ha ⟨n, hn⟩ c ⟨y, hy⟩ ⟨x, hx⟩)
  refine congrArg a ?_
  funext d
  fin_cases d
  · exact Fin.ext (back_small (b := 31) e0 (Nat.le_of_lt_succ hn) (by norm_num))
  · rfl
  · exact Fin.ext (back_small (b := 35) e1 (Nat.le_of_lt_succ hy) (by norm_num))
  · exact Fin.ext (back_small (b := 35) e2 (Nat.le_of_lt_succ hx) (by norm_num))

end Cert.Proof
end
-- ==== Proof.RefPool.lean ====
/-
  The reference's pooling: the integrals to the corners of the bins, their differences over the bins' areas, and the
  pooled values as the weighted sums over the map.
-/
module

public import proofs.«01_k».proof.Proof.RefTrap

@[expose] public section
set_option maxRecDepth 16384
noncomputable section
namespace Cert.Proof
open Idealize.ShloMosaic Idealize.SL.Sem Cert.ReferenceIdeal Cert.ReferenceIdeal.Gen Cert.ReferenceIdeal.Read
open Finset (range)

/-- The cells after the given ones. -/
def nextV (h : IVec S512x5 32) : IVec S512x5 32 := addi h (val_main_v361 (F := Ideal))

/-- Numbers per region and column, over all rows and channels -/
def colV (x : FVec Ideal S512x5 .f32) : FVec Ideal S512x5x5x256 .f32 :=
  broadcastInDim S512x5x5x256 ![0, 1, 2, 3] bcast_S512x1x5x1_S512x5x5x256_0_1_2_3
    (broadcastInDim S512x1x5x1 ![0, 2] bcast_S512x5_S512x1x5x1_0_2 x : FVec Ideal S512x1x5x1 .f32)
/-- and per region and row, over all columns and channels. -/
def rowV (x : FVec Ideal S512x5 .f32) : FVec Ideal S512x5x5x256 .f32 :=
  broadcastInDim S512x5x5x256 ![0, 1, 2, 3] bcast_S512x5x1x1_S512x5x5x256_0_1_2_3
    (broadcastInDim S512x5x1x1 ![0, 1] bcast_S512x5_S512x5x1x1_0_1 x : FVec Ideal S512x5x1x1 .f32)

/-- A whole cells' integral with the last cell's part, along `x`. -/
def lineV (U a : Imgs) (b : IVec S512 32) (h w : IVec S512x5 32) (lo hi : FVec Ideal S512x5 .f32) : FVec Ideal S512x5x5x256 .f32 :=
  addf (addf (readV U b h w) (mulf (readV a b h w) (colV lo))) (mulf (readV a b h (nextV w)) (colV hi))

/-- The integrals to the corners. -/
def rectV (T Uy Ux a : Imgs) (b : IVec S512 32) (h w : IVec S512x5 32) (xlo xhi ylo yhi : FVec Ideal S512x5 .f32) :
    FVec Ideal S512x5x5x256 .f32 :=
  addf (addf (lineV T Uy b h w xlo xhi) (mulf (rowV ylo) (lineV Ux a b h w xlo xhi)))
    (mulf (rowV yhi) (lineV Ux a b (nextV h) w xlo xhi))

/-- The reference's integrals to the corners are these. -/
theorem rect_ref (x0 x1 x2 x3 x4 x5 x6 x7 x8 x9 x10 x11 x12 x13) :
    val_main_v622 (F := Ideal) x0 x1 x2 x3 x4 x5 x6 x7 x8 x9 x10 x11 x12 x13
      = rectV (val_main_v294 (F := Ideal) x0 x2 x3 x4 x5 x6 x7 x8 x9 x10 x11 x12 x13)
          (val_main_v283 (F := Ideal) x0 x2 x3 x4 x5 x6 x7 x8 x9 x10 x11 x12 x13)
          (val_main_v272 (F := Ideal) x0 x2 x3 x4 x5 x6 x7 x8 x9 x10 x11 x12 x13)
          (val_main_v252 (F := Ideal) x0 x2 x3 x4 x5 x6 x7 x8 x9 x10 x11 x12 x13)
          (val_main_v297 (F := Ideal) x1) (val_main_v344 (F := Ideal) x1) (val_main_v341 (F := Ideal) x1)
          (val_main_v352 (F := Ideal) x1) (val_main_v351 (F := Ideal) x1) (val_main_v356 (F := Ideal) x1)
          (val_main_v355 (F := Ideal) x1) := rfl

/-- The next cell. -/
theorem nextV_at {h : IVec S512x5 32} {r : Fin 512} {k : Fin 5} {n : ℕ} (e : h (ix2 r k) = BitVec.ofNat 32 n) :
    nextV h (ix2 r k) = BitVec.ofNat 32 (n + 1) := by
  pointwise [nextV, val_main_v361, val_main_c_41]
  rw [e]
  exact BitVec.ofNat_add_ofNat n 1

/-- A line's integral, of real numbers. -/
theorem lineV_rd {U a : Imgs} {u f : ℕ → ℕ → ℕ → ℕ → ℝ} (hU : Rd4 U u) (ha : Rd4 a f) {b : IVec S512 32} {h w : IVec S512x5 32}
    {lo hi : FVec Ideal S512x5 .f32} {X : ℕ → ℕ → ℝ} (hlo : Rd2 lo fun r k => loR (X r k)) (hhi : Rd2 hi fun r k => hiR (X r k))
    (r : Fin 512) (j k : Fin 5) (c : Fin 256) {n y : ℕ} (hn : n < 32) (hy : y < 36) (eb : b (ix1 r) = BitVec.ofNat 32 n)
    (eh : h (ix2 r j) = BitVec.ofNat 32 y) (ew : w (ix2 r k) = BitVec.ofNat 32 (cellN (X r k))) :
    lineV U a b h w lo hi (ix4 r j k c) = ((lineR (f n c y) (u n c y (cellN (X r k))) (X r k) : ℝ) : EReal) := by
  have hc := cellN_le (X r k)
  have e0 := readV_rd hU r j k c hn hy (show cellN (X r k) < 36 by omega) eb eh ew
  have e1 := readV_rd ha r j k c hn hy (show cellN (X r k) < 36 by omega) eb eh ew
  have e2 := readV_rd ha r j k c hn hy (show cellN (X r k) + 1 < 36 by omega) eb eh (nextV_at ew)
  pointwise [lineV, colV]
  rw [e0, e1, e2, hlo r k, hhi r k]
  simp only [← EReal.coe_mul, ← EReal.coe_add]
  rfl

/-- The integrals to the corners, of real images. -/
theorem rectV_rd {a : Imgs} {f : ℕ → ℕ → ℕ → ℕ → ℝ} (ha : Rd4 a f) {b : IVec S512 32} {h w : IVec S512x5 32}
    {xlo xhi ylo yhi : FVec Ideal S512x5 .f32} {X Y : ℕ → ℕ → ℝ}
    (hxlo : Rd2 xlo fun r k => loR (X r k)) (hxhi : Rd2 xhi fun r k => hiR (X r k))
    (hylo : Rd2 ylo fun r k => loR (Y r k)) (hyhi : Rd2 yhi fun r k => hiR (Y r k))
    (eb : ∀ r : Fin 512, b (ix1 r) = BitVec.ofNat 32 (r / 16))
    (eh : ∀ (r : Fin 512) (k : Fin 5), h (ix2 r k) = BitVec.ofNat 32 (cellN (Y r k)))
    (ew : ∀ (r : Fin 512) (k : Fin 5), w (ix2 r k) = BitVec.ofNat 32 (cellN (X r k))) :
    Rd4 (rectV (swapV (trapV (swapV (trapV a)))) (swapV (trapV (swapV a))) (trapV a) a b h w xlo xhi ylo yhi)
      fun r j k c => rectR (X r k) (Y r j) (f (r / 16) c) := by
  intro r j k c
  have hc := cellN_le (Y r j)
  have hUx := trapV_rd ha
  have hUy := swapV_rd (trapV_rd (swapV_rd ha))
  have hT := swapV_rd (trapV_rd (swapV_rd hUx))
  have l0 := lineV_rd hT hUy hxlo hxhi r j k c (show (r : ℕ) / 16 < 32 by omega) (show cellN (Y r j) < 36 by omega) (eb r) (eh r j) (ew r k)
  have l1 := lineV_rd hUx ha hxlo hxhi r j k c (show (r : ℕ) / 16 < 32 by omega) (show cellN (Y r j) < 36 by omega) (eb r) (eh r j) (ew r k)
  have l2 := lineV_rd hUx ha hxlo hxhi r j k c (show (r : ℕ) / 16 < 32 by omega) (show cellN (Y r j) + 1 < 36 by omega) (eb r)
    (nextV_at (eh r j)) (ew r k)
  pointwise [rectV, rowV]
  rw [l0, l1, l2, hylo r j, hyhi r j]
  simp only [← EReal.coe_mul, ← EReal.coe_add]
  refine congrArg _ ?_
  exact rect_eq (X r k) (Y r j) (f (r / 16) c)

/-- A bin's value, from the integrals to the corners and the areas, in the order the last matrix takes them. -/
def binV (G : FVec Ideal S512x5x5x256 .f32) (lx ly : FVec Ideal S512 .f32) : FVec Ideal S512x4096 .f32 :=
  let A : FVec Ideal S512x1x1x1 .f32 := broadcastInDim S512x1x1x1 ![0] bcast_S512_S512x1x1x1_0 (mulf lx ly)
  let D : FVec Ideal S512x4x4x256 .f32 := addf (subf (subf
      (extractStridedSlice S512x4x4x256 ![0, 1, 1, 0] G slices_S512x5x5x256_S512x4x4x256_0_1_1_0)
      (extractStridedSlice S512x4x4x256 ![0, 0, 1, 0] G slices_S512x5x5x256_S512x4x4x256_0_0_1_0))
      (extractStridedSlice S512x4x4x256 ![0, 1, 0, 0] G slices_S512x5x5x256_S512x4x4x256_0_1_0_0))
      (extractStridedSlice S512x4x4x256 ![0, 0, 0, 0] G slices_S512x5x5x256_S512x4x4x256_0_0_0_0)
  let M : FVec Ideal S512x4x4x256 .f32 :=
    broadcastInDim S512x4x4x256 ![0, 1, 2, 3] bcast_S512x1x1x1_S512x4x4x256_0_1_2_3 (maximumf A (val_main_v634 (F := Ideal)))
  let B : IVec S512x4x4x256 1 :=
    broadcastInDim S512x4x4x256 ![0, 1, 2, 3] bcast_S512x1x1x1_S512x4x4x256_0_1_2_3 (cmpf .ogt A (val_main_v632 (F := Ideal)))
  let Q : FVec Ideal S512x4x4x256 .f32 := select B (Host.divf D M) (val_main_call13_v2 (F := Ideal))
  let P : FVec Ideal S512x256x4x4 .f32 := transpose S512x256x4x4 [0, 3, 1, 2] Q transposes_S512x4x4x256_S512x256x4x4_0_3_1_2
  shapeCast S512x4096 P shapeCasts_S512x256x4x4_S512x4096

/-- The reference's pooled values are these. -/
theorem bin_ref (x0 x1 x2 x3 x4 x5 x6 x7 x8 x9 x10 x11 x12 x13) :
    val_main_v640 (F := Ideal) x0 x1 x2 x3 x4 x5 x6 x7 x8 x9 x10 x11 x12 x13
      = binV (val_main_v622 (F := Ideal) x0 x1 x2 x3 x4 x5 x6 x7 x8 x9 x10 x11 x12 x13)
          (val_main_v316 (F := Ideal) x1) (val_main_v319 (F := Ideal) x1) := rfl

/-- The bins' values, of real numbers. -/
theorem binV_rd {G : FVec Ideal S512x5x5x256 .f32} {g : ℕ → ℕ → ℕ → ℕ → ℝ} (hG : Rd4 G g) {lx ly : FVec Ideal S512 .f32}
    {u v : ℕ → ℝ} (hx : Rd1 lx u) (hy : Rd1 ly v) :
    Rd2 (binV G lx ly) fun r k =>
      (g r (k / 4 % 4 + 1) (k % 4 + 1) (k / 16) - g r (k / 4 % 4) (k % 4 + 1) (k / 16) - g r (k / 4 % 4 + 1) (k % 4) (k / 16)
        + g r (k / 4 % 4) (k % 4) (k / 16)) * invArea (u r * v r) := by
  intro r k
  pointwise [binV, val_main_v634, val_main_cst_98, val_main_v632, val_main_cst_97, val_main_call13_v2, val_main_call13_v0,
    val_main_cst_99]
  simp only [hx r, hy r, minArea_bits, ← EReal.coe_mul, coe_max_real]
  have g1 := hG r ⟨1 + k / 4 % 4, by omega⟩ ⟨1 + k % 4, by omega⟩ ⟨k / 16, by omega⟩
  have g2 := hG r ⟨k / 4 % 4, by omega⟩ ⟨1 + k % 4, by omega⟩ ⟨k / 16, by omega⟩
  have g3 := hG r ⟨1 + k / 4 % 4, by omega⟩ ⟨k % 4, by omega⟩ ⟨k / 16, by omega⟩
  have g4 := hG r ⟨k / 4 % 4, by omega⟩ ⟨k % 4, by omega⟩ ⟨k / 16, by omega⟩
  refine (if_congr Iff.rfl (congrArg (fun z => Ideal.div z _)
    (congrArg₂ (· + ·) (congrArg₂ (· - ·) (congrArg₂ (· - ·) g1 g2) g3) g4)) rfl).trans ?_
  simp only [← EReal.coe_sub, ← EReal.coe_add, Nat.add_comm 1]
  rw [div_real _ (lt_of_lt_of_le minArea_pos (le_max_right _ _)).ne',
    show (id (constant S_ FTy.f32 0#32) ix0 : Ideal .f32) = ((0 : ℝ) : EReal) from zero_bits]
  unfold invArea
  by_cases h : minArea < u r * v r
  · rw [if_pos (EReal.coe_lt_coe_iff.2 h), if_pos h]
    refine congrArg _ ?_
    ring
  · rw [if_neg (fun hh => h (EReal.coe_lt_coe_iff.1 hh)), if_neg h, mul_zero]

/-- The difference of the integrals to the corners of a bin over its area, as the sum over the map. -/
theorem bin_sum (q : ℕ → ℝ) (jx iy : ℕ) (f : ℕ → ℝ) :
    (rectR (cornerR (q 0) (q 2) (jx + 1)) (cornerR (q 1) (q 3) (iy + 1)) (fun v u => f (36 * v + u))
        - rectR (cornerR (q 0) (q 2) (jx + 1)) (cornerR (q 1) (q 3) iy) (fun v u => f (36 * v + u))
        - rectR (cornerR (q 0) (q 2) jx) (cornerR (q 1) (q 3) (iy + 1)) (fun v u => f (36 * v + u))
        + rectR (cornerR (q 0) (q 2) jx) (cornerR (q 1) (q 3) iy) (fun v u => f (36 * v + u)))
      * invArea (q 2 * 5 * (q 3 * 5)) = ∑ p ∈ range 1296, wtR q jx iy p * f p := by
  rw [bin_eq, Finset.sum_mul, ← sum_pixels, Finset.sum_range]
  refine Finset.sum_congr rfl fun v _ => ?_
  rw [Finset.sum_mul, Finset.sum_range]
  refine Finset.sum_congr rfl fun u _ => ?_
  unfold wtR binR
  rw [show (36 * (v : ℕ) + u) % 36 = u by omega, show (36 * (v : ℕ) + u) / 36 = v by omega]
  ring

/-- THE POOLED VALUES of the reference: those of the kernel, channels first. -/
theorem pooled_rd {R : Reals} {x0 x1 x2 x3 x4 x5 x6 x7 x8 x9 x10 x11 x12 x13 x14 x15}
    (H : Holds R x0 x1 x2 x3 x4 x5 x6 x7 x8 x9 x10 x11 x12 x13 x14 x15) :
    Rd2 (val_main_v640 (F := Ideal) x0 x1 x2 x3 x4 x5 x6 x7 x8 x9 x10 x11 x12 x13) fun r k => R.pooled r (placesFirst k) := by
  have ha : Rd4 (val_main_v252 (F := Ideal) x0 x2 x3 x4 x5 x6 x7 x8 x9 x10 x11 x12 x13)
      fun n i h v => reluR (R.y3 n) (scalesR R.y3 R.g3) (shiftsR R.y3 R.g3 R.s3) (36 * h + v) i := images_rd H
  have hX := xsV_rd H.rois
  have hY := ysV_rd H.rois
  have hG := rectV_rd ha (loV_rd hX) (hiV_rd hX) (loV_rd hY) (hiV_rd hY) (steps (x1 := x1)) (cellV_rd hY) (cellV_rd hX)
  have hB := binV_rd hG (lenV_rd (left_rd H.rois) (right_rd H.rois)) (lenV_rd (top_rd H.rois) (bottom_rd H.rois))
  intro r k
  rw [bin_ref, rect_ref, uxy_eq, uy_eq, ux_eq, xcell_eq, ycell_eq, xhi_eq, xlo_eq, yhi_eq, ylo_eq, xlen_eq, ylen_eq]
  refine (hB r k).trans (congrArg _ ?_)
  obtain ⟨e1, e2, e3⟩ := placesFirst_parts k.isLt
  show _ = poolR _ _ _ _ (placesFirst k)
  unfold poolR
  rw [e1, e2, e3]
  exact bin_sum (boxR R.rois r) (k % 4) (k / 4 % 4) fun p =>
    reluR (R.y3 (r / 16)) (scalesR R.y3 R.g3) (shiftsR R.y3 R.g3 R.s3) p (k / 16)

/-- The fully connected layer's values. -/
theorem fc_rd {R : Reals} {x0 x1 x2 x3 x4 x5 x6 x7 x8 x9 x10 x11 x12 x13 x14 x15}
    (H : Holds R x0 x1 x2 x3 x4 x5 x6 x7 x8 x9 x10 x11 x12 x13 x14 x15) :
    Rd2 (val_main_v645 (F := Ideal) x0 x1 x2 x3 x4 x5 x6 x7 x8 x9 x10 x11 x12 x13 x14 x15) R.fc := by
  have hp := pooled_rd H
  intro r o
  pointwise [val_main_v645, val_main_v644, val_main_v643, val_main_v642, val_main_v641]
  show _ = ((fcR R.pooled (fcW R.fw) R.fb r o : ℝ) : EReal)
  unfold fcR
  rw [sum_swapped, EReal.coe_add, ← H.fb o]
  refine congrArg₂ (· + ·) ?_ rfl
  rw [← coe_sum_real, Finset.sum_range]
  refine Finset.sum_congr rfl fun k _ => ?_
  rw [hp r k, H.fw o k, ← EReal.coe_mul]
  refine congrArg _ (congrArg _ ?_)
  show R.fw o k = R.fw o (chanFirst (placesFirst k))
  rw [chanFirst_placesFirst k.isLt]

end Cert.Proof
end
-- ==== Proof.RefHead.lean ====
/-
  The reference's last layers: the fully connected layer's values normalised over the 512 regions, scaled, shifted,
  made positive and summed with the last weights.
-/
module

public import proofs.«01_k».proof.Proof.RefPool
public import proofs.«01_k».proof.Proof.HeadBlock

@[expose] public section
set_option maxRecDepth 16384
noncomputable section
namespace Cert.Proof
open Idealize.ShloMosaic Idealize.SL.Sem Cert.ReferenceIdeal Cert.ReferenceIdeal.Gen Cert.ReferenceIdeal.Read
open Finset (range)

/-- The means over the regions. -/
def meanV (x : FVec Ideal S512x256 .f32) : FVec Ideal S256 .f32 :=
  Host.divf (Host.reduceAdd x (val_main_cst_100 (F := Ideal)) reducesTo_S512x256_S256_d0 h_S_) (val_main_v647 (F := Ideal))

/-- A number per column, over all regions. -/
def overV (x : FVec Ideal S256 .f32) : FVec Ideal S512x256 .f32 :=
  broadcastInDim S512x256 ![0, 1] bcast_S1x256_S512x256_0_1 (broadcastInDim S1x256 ![1] bcast_S256_S1x256_1 x : FVec Ideal S1x256 .f32)

/-- The distances from the means. -/
def devV (x : FVec Ideal S512x256 .f32) : FVec Ideal S512x256 .f32 := subf x (overV (meanV x))

/-- Their squares. -/
def sqrV (x : FVec Ideal S512x256 .f32) : FVec Ideal S512x256 .f32 := mulf (devV x) (devV x)

/-- The normalised values. -/
def unitV (x : FVec Ideal S512x256 .f32) : FVec Ideal S512x256 .f32 :=
  Host.divf (devV x) (overV (Host.sqrt (addf (meanV (sqrV x)) (val_main_v659 (F := Ideal)))))

/-- The reference's normalised values are these. -/
theorem unit_ref (x0 x1 x2 x3 x4 x5 x6 x7 x8 x9 x10 x11 x12 x13 x14 x15) :
    val_main_v664 (F := Ideal) x0 x1 x2 x3 x4 x5 x6 x7 x8 x9 x10 x11 x12 x13 x14 x15
      = unitV (val_main_v645 (F := Ideal) x0 x1 x2 x3 x4 x5 x6 x7 x8 x9 x10 x11 x12 x13 x14 x15) := rfl

/-- The means of real numbers. -/
theorem meanV_rd {x : FVec Ideal S512x256 .f32} {f : ℕ → ℕ → ℝ} (h : Rd2 x f) : Rd1 (meanV x) fun o => meanH fun r => f r o := by
  intro o
  pointwise [meanV, val_main_cst_100, val_main_v647, val_main_cst_101]
  simp only [h _ _]
  have e := coe_sum_fin (n := 512) fun r => f r o
  rw [e, bits512, div_real _ (by norm_num)]
  rfl

/-- The distances of real numbers from their mean. -/
theorem devV_rd {x : FVec Ideal S512x256 .f32} {f : ℕ → ℕ → ℝ} (h : Rd2 x f) :
    Rd2 (devV x) fun r o => f r o - meanH fun r => f r o := by
  intro r o
  pointwise [devV, overV]
  rw [h r o, meanV_rd h o, ← EReal.coe_sub]
/-- The squared distances of real numbers. -/
theorem sqrV_rd {x : FVec Ideal S512x256 .f32} {f : ℕ → ℕ → ℝ} (h : Rd2 x f) :
    Rd2 (sqrV x) fun r o => (f r o - meanH fun r => f r o) * (f r o - meanH fun r => f r o) := by
  intro r o
  pointwise [sqrV]
  rw [devV_rd h r o, ← EReal.coe_mul]

/-- The normalised values of real numbers. -/
theorem unitV_rd {x : FVec Ideal S512x256 .f32} {f : ℕ → ℕ → ℝ} (h : Rd2 x f) : Rd2 (unitV x) fun r o => normH f r o := by
  intro r o
  pointwise [unitV, overV, val_main_v659, val_main_cst_104]
  rw [devV_rd h r o, meanV_rd (sqrV_rd h) o, show Ideal.ofBits .f32 925353388#32 = (epsR : EReal) from eps_bits, ← EReal.coe_add]
  dsimp only
  rw [show (meanH fun r => (f r o - meanH fun r => f r o) * (f r o - meanH fun r => f r o)) = varH fun r => f r o from
    (varH_eq fun r => f r o).symm, sqrt_real (add_nonneg (varH_nonneg _) epsR_pos.le)]
  exact div_real _ (sdH_pos fun r => f r o).ne'

/-- THE REFERENCE'S RESULT. -/
theorem reference_result {R : Reals} {x0 x1 x2 x3 x4 x5 x6 x7 x8 x9 x10 x11 x12 x13 x14 x15}
    (H : Holds R x0 x1 x2 x3 x4 x5 x6 x7 x8 x9 x10 x11 x12 x13 x14 x15) (x16 x17 x18 x19) (i : Fin 8) (j : Fin 4) (k : Fin 16) :
    (val_main_v677 (F := Ideal) x0 x1 x2 x3 x4 x5 x6 x7 x8 x9 x10 x11 x12 x13 x14 x15 x16 x17 x18 x19 : S8x4x16.Idx → EReal) (ix3 i j k)
      = lastE R.fc (fun o => (x16 : S256.Idx → EReal) (ix1 o)) (fun o => (x17 : S256.Idx → EReal) (ix1 o))
          (fun o => (x18 : S1x256.Idx → EReal) (ix2 0 o)) ((x19 : S1.Idx → EReal) (ix1 0)) (i * 64 + j * 16 + k) := by
  have hu := unitV_rd (fc_rd H)
  rw [← unit_ref] at hu
  pointwise [val_main_v677, val_main_v676, val_main_v675, val_main_v674, val_main_v673, val_main_v672, val_main_v671,
    val_main_call14_v0, val_main_call14_cst, val_main_v670, val_main_v669, val_main_v668, val_main_v667, val_main_v666,
    val_main_v665]
  unfold lastE
  refine congrArg₂ (· + ·) (Finset.sum_congr rfl fun o _ => ?_) rfl
  rw [hu _ o]

end Cert.Proof
end
-- ==== Proof.lean ====
module

public import proofs.«01_k».proof.Defs
public import proofs.«01_k».proof.Proof.Frames
public import proofs.«01_k».proof.Proof.Finite
public import proofs.«01_k».proof.Proof.KernelRun
public import proofs.«01_k».proof.Proof.KernelValue
public import proofs.«01_k».proof.Proof.RefRun
public import proofs.«01_k».proof.Proof.RefHead

@[expose] public section

set_option maxRecDepth 16384

noncomputable section

namespace Cert.Proof

open Idealize.ShloMosaic Idealize.SL.Sem

/-- The idealized kernel runs to an end with its arguments unchanged, also from arguments that are finite. -/
theorem frame_pi_finite : Cert.quiescent_KernelIdeal_pre_finite_args := fun m ρ _ => frame_pi m ρ trivial

/-- So does the reference. -/
theorem frame_ri_finite : Cert.quiescent_ReferenceIdeal_pre_finite_args := fun m ρ _ => frame_ri m ρ trivial

/-- Arguments that hold the same real numbers give the reference the kernel's result. -/
theorem values_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) {R : Reals} (h : HoldsK m c R) :
    Cert.ReferenceIdeal.Read.val_main_v677 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
    = (Cert.KernelIdeal.Gen.W11 m ρ c (Proc.devRef .tc Cert.KernelIdeal.main_v85) : Cert.ReferenceIdeal.S8x4x16.Idx → EReal) :=
  funext fun i => by
    rw [eq_ix3 i]
    exact (reference_result h _ _ _ _ _ _ _).trans (kernel_result ρ h _ _ _).symm

/-- The idealized kernel and the reference, from memories that agree on the arguments, end with equal results. -/
theorem algebraic : Cert.algebraic_KernelIdeal_ReferenceIdeal_pre_finite_args := by
  intro m g m' g' hpre hagree
  refine ⟨fun c => Cert.KernelIdeal.Gen.W11 m g c (Proc.devRef .tc Cert.KernelIdeal.main_v85), ?_, ?_⟩
  · refine (θ_run Cert.KernelIdeal.defs _ _).mono (fun r h c => ⟨(h c).1, ?_⟩) (kernel_run m g)
    refine ⟨?_, ?_, ?_, ?_, ?_, ?_, ?_, ?_, ?_, ?_, ?_, ?_, ?_, ?_, ?_, ?_, ?_, ?_, ?_, ?_⟩ <;>
      exact (h c).2 _ (by decide)
  · refine reference_run m' g' _ fun c => ?_
    obtain ⟨e0, e1, e2, e3, e4, e5, e6, e7, e8, e9, e10, e11, e12, e13, e14, e15, e16, e17, e18, e19⟩ := hagree c
    obtain ⟨R, h⟩ := holds_of_finite (hpre c)
    unfold refValue
    rw [e0, e1, e2, e3, e4, e5, e6, e7, e8, e9, e10, e11, e12, e13, e14, e15, e16, e17, e18, e19]
    exact values_eq m g c h

/-- All the claims together. -/
theorem claim : Cert.Claim :=
  ⟨Cert.Kernel.Gen.facts, Cert.KernelIdeal.Gen.facts, Cert.ReferenceIdeal.Gen.facts, Cert.Pre_finite_args.Gen.facts,
    frame_p, frame_pi, frame_pi_finite, frame_ri, frame_ri_finite, trivial, algebraic⟩

end Cert.Proof

end
